-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S2048x640 : Shape := ⟨2, ![2048, 640]⟩
abbrev S2048x768 : Shape := ⟨2, ![2048, 768]⟩
abbrev S1024x640 : Shape := ⟨2, ![1024, 640]⟩
abbrev S1024x768 : Shape := ⟨2, ![1024, 768]⟩
abbrev S512x640 : Shape := ⟨2, ![512, 640]⟩
abbrev S512x768 : Shape := ⟨2, ![512, 768]⟩
abbrev S1x128 : Shape := ⟨2, ![1, 128]⟩
abbrev S8x128 : Shape := ⟨2, ![8, 128]⟩
abbrev S24 : Shape := ⟨1, ![24]⟩
abbrev S8 : Shape := ⟨1, ![8]⟩
abbrev S_ : Shape := ⟨0, ![]⟩
abbrev S512x512 : Shape := ⟨2, ![512, 512]⟩
abbrev S1 : Shape := ⟨1, ![1]⟩
abbrev S1x512x2048 : Shape := ⟨3, ![1, 512, 2048]⟩
abbrev S1x1x1 : Shape := ⟨3, ![1, 1, 1]⟩
abbrev S1x8x128 : Shape := ⟨3, ![1, 8, 128]⟩

abbrev nBuf : Space → Nat
  | .hbm => 3
  | .vmem => 22
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S512x2048, .f32⟩
  | .local _ .vmem, ⟨0, _⟩ => ⟨S4096x512, .bf16⟩
  | .local _ .vmem, ⟨1, _⟩ => ⟨S512x2048, .bf16⟩
  | .local _ .vmem, ⟨2, _⟩ => ⟨S512x2048, .f32⟩
  | .local _ .vmem, ⟨3, _⟩ => ⟨S2048x640, .bf16⟩
  | .local _ .vmem, ⟨4, _⟩ => ⟨S2048x640, .bf16⟩
  | .local _ .vmem, ⟨5, _⟩ => ⟨S2048x768, .bf16⟩
  | .local _ .vmem, ⟨6, _⟩ => ⟨S2048x640, .bf16⟩
  | .local _ .vmem, ⟨7, _⟩ => ⟨S2048x640, .bf16⟩
  | .local _ .vmem, ⟨8, _⟩ => ⟨S2048x768, .bf16⟩
  | .local _ .vmem, ⟨9, _⟩ => ⟨S2048x640, .bf16⟩
  | .local _ .vmem, ⟨10, _⟩ => ⟨S2048x640, .bf16⟩
  | .local _ .vmem, ⟨11, _⟩ => ⟨S2048x768, .bf16⟩
  | .local _ .vmem, ⟨12, _⟩ => ⟨S1024x640, .bf16⟩
  | .local _ .vmem, ⟨13, _⟩ => ⟨S1024x640, .bf16⟩
  | .local _ .vmem, ⟨14, _⟩ => ⟨S1024x768, .bf16⟩
  | .local _ .vmem, ⟨15, _⟩ => ⟨S512x640, .bf16⟩
  | .local _ .vmem, ⟨16, _⟩ => ⟨S512x640, .bf16⟩
  | .local _ .vmem, ⟨17, _⟩ => ⟨S512x768, .bf16⟩
  | .local _ .vmem, ⟨18, _⟩ => ⟨S4096x512, .bf16⟩
  | .local _ .vmem, ⟨19, _⟩ => ⟨S512x2048, .bf16⟩
  | .local _ .vmem, ⟨20, _⟩ => ⟨S1x128, .f32⟩
  | .local _ .vmem, ⟨21, _⟩ => ⟨S8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v8 : BitVec 32 := Scalar.addi v2 c1_i32_1
  let c8_i32_2 : BitVec 32 := 8#32
  let v9 : BitVec 32 := Scalar.remsi v8 c8_i32_2
  let c1_i32_4 : BitVec 32 := 1#32
  let v10 : BitVec 32 := Scalar.muli v9 c1_i32_4
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v12 : BitVec 32 := Scalar.addi v2 c2_i32
  let c8_i32_5 : BitVec 32 := 8#32
  let v13 : BitVec 32 := Scalar.remsi v12 c8_i32_5
  let c1_i32_7 : BitVec 32 := 1#32
  let v14 : BitVec 32 := Scalar.muli v13 c1_i32_7
  let v15 : BitVec 32 := Scalar.addi c0_i32_8 v14
  v15.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c8_i32_9 : BitVec 32 := 8#32
  let v17 : BitVec 32 := Scalar.remsi v16 c8_i32_9
  let c1_i32_11 : BitVec 32 := 1#32
  let v18 : BitVec 32 := Scalar.muli v17 c1_i32_11
  let v19 : BitVec 32 := Scalar.addi c0_i32_12 v18
  v19.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v20 : BitVec 32 := Scalar.addi v2 c4_i32
  let c8_i32_13 : BitVec 32 := 8#32
  let v21 : BitVec 32 := Scalar.remsi v20 c8_i32_13
  let c1_i32_15 : BitVec 32 := 1#32
  let v22 : BitVec 32 := Scalar.muli v21 c1_i32_15
  let v23 : BitVec 32 := Scalar.addi c0_i32_16 v22
  v23.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v24 : BitVec 32 := Scalar.addi v2 c5_i32
  let c8_i32_17 : BitVec 32 := 8#32
  let v25 : BitVec 32 := Scalar.remsi v24 c8_i32_17
  let c1_i32_19 : BitVec 32 := 1#32
  let v26 : BitVec 32 := Scalar.muli v25 c1_i32_19
  let v27 : BitVec 32 := Scalar.addi c0_i32_20 v26
  v27.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v28 : BitVec 32 := Scalar.addi v2 c6_i32
  let c8_i32_21 : BitVec 32 := 8#32
  let v29 : BitVec 32 := Scalar.remsi v28 c8_i32_21
  let c1_i32_23 : BitVec 32 := 1#32
  let v30 : BitVec 32 := Scalar.muli v29 c1_i32_23
  let v31 : BitVec 32 := Scalar.addi c0_i32_24 v30
  v31.toNat
def k0_dev7 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v32 : BitVec 32 := Scalar.addi v2 c7_i32
  let c8_i32_25 : BitVec 32 := 8#32
  let v33 : BitVec 32 := Scalar.remsi v32 c8_i32_25
  let c1_i32_27 : BitVec 32 := 1#32
  let v34 : BitVec 32 := Scalar.muli v33 c1_i32_27
  let v35 : BitVec 32 := Scalar.addi c0_i32_28 v34
  v35.toNat
def k0_off1 (d0 : Dev nD) (c2_i32_38 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v46 : BitVec 32 := Scalar.xori v2 c2_i32_38
  let c512_i32 : BitVec 32 := 512#32
  let v47 : BitVec 32 := Scalar.muli v46 c512_i32
  let v48 : Index := Scalar.indexCast v47
  let c0_39 : Index := 0#32
  ![v48.toNat, 0]
def k0_dev8 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_44 : BitVec 32 := 1#32
  let v56 : BitVec 32 := Scalar.xori v2 c1_i32_44
  let c1_i32_47 : BitVec 32 := 1#32
  let v57 : BitVec 32 := Scalar.muli v56 c1_i32_47
  let v58 : BitVec 32 := Scalar.addi c0_i32_48 v57
  v58.toNat
def k0_dev9 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_60 : BitVec 32 := 3#32
  let v75 : BitVec 32 := Scalar.xori v2 c3_i32_60
  let c1_i32_62 : BitVec 32 := 1#32
  let v76 : BitVec 32 := Scalar.muli v75 c1_i32_62
  let v77 : BitVec 32 := Scalar.addi c0_i32_63 v76
  v77.toNat
def k0_dev10 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_75 : BitVec 32 := 4#32
  let v94 : BitVec 32 := Scalar.xori v2 c4_i32_75
  let c1_i32_77 : BitVec 32 := 1#32
  let v95 : BitVec 32 := Scalar.muli v94 c1_i32_77
  let v96 : BitVec 32 := Scalar.addi c0_i32_78 v95
  v96.toNat
def k0_dev11 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_90 : BitVec 32 := 1#32
  let v113 : BitVec 32 := Scalar.xori v2 c1_i32_90
  let c1_i32_93 : BitVec 32 := 1#32
  let v114 : BitVec 32 := Scalar.muli v113 c1_i32_93
  let v115 : BitVec 32 := Scalar.addi c0_i32_94 v114
  v115.toNat
def k0_dev12 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_106 : BitVec 32 := 3#32
  let v132 : BitVec 32 := Scalar.xori v2 c3_i32_106
  let c1_i32_108 : BitVec 32 := 1#32
  let v133 : BitVec 32 := Scalar.muli v132 c1_i32_108
  let v134 : BitVec 32 := Scalar.addi c0_i32_109 v133
  v134.toNat
def k0_dev13 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_122 : BitVec 32 := 4#32
  let v151 : BitVec 32 := Scalar.xori v2 c4_i32_122
  let c1_i32_124 : BitVec 32 := 1#32
  let v152 : BitVec 32 := Scalar.muli v151 c1_i32_124
  let v153 : BitVec 32 := Scalar.addi c0_i32_125 v152
  v153.toNat
def k0_dev14 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_137 : BitVec 32 := 1#32
  let v170 : BitVec 32 := Scalar.xori v2 c1_i32_137
  let c1_i32_140 : BitVec 32 := 1#32
  let v171 : BitVec 32 := Scalar.muli v170 c1_i32_140
  let v172 : BitVec 32 := Scalar.addi c0_i32_141 v171
  v172.toNat
def k0_dev15 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_153 : BitVec 32 := 3#32
  let v189 : BitVec 32 := Scalar.xori v2 c3_i32_153
  let c1_i32_155 : BitVec 32 := 1#32
  let v190 : BitVec 32 := Scalar.muli v189 c1_i32_155
  let v191 : BitVec 32 := Scalar.addi c0_i32_156 v190
  v191.toNat
def k0_dev16 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_169 : BitVec 32 := 4#32
  let v208 : BitVec 32 := Scalar.xori v2 c4_i32_169
  let c1_i32_171 : BitVec 32 := 1#32
  let v209 : BitVec 32 := Scalar.muli v208 c1_i32_171
  let v210 : BitVec 32 := Scalar.addi c0_i32_172 v209
  v210.toNat
def k0_dev17 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_185 : BitVec 32 := 1#32
  let v227 : BitVec 32 := Scalar.xori v2 c1_i32_185
  let c1_i32_188 : BitVec 32 := 1#32
  let v228 : BitVec 32 := Scalar.muli v227 c1_i32_188
  let v229 : BitVec 32 := Scalar.addi c0_i32_189 v228
  v229.toNat
def k0_dev18 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_202 : BitVec 32 := 3#32
  let v246 : BitVec 32 := Scalar.xori v2 c3_i32_202
  let c1_i32_205 : BitVec 32 := 1#32
  let v247 : BitVec 32 := Scalar.muli v246 c1_i32_205
  let v248 : BitVec 32 := Scalar.addi c0_i32_206 v247
  v248.toNat
def k0_dev19 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_219 : BitVec 32 := 4#32
  let v265 : BitVec 32 := Scalar.xori v2 c4_i32_219
  let c1_i32_221 : BitVec 32 := 1#32
  let v266 : BitVec 32 := Scalar.muli v265 c1_i32_221
  let v267 : BitVec 32 := Scalar.addi c0_i32_222 v266
  v267.toNat
def k0_dev20 (d0 : Dev nD) : Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_351 : BitVec 32 := 3#32
  let v424 : BitVec 32 := Scalar.xori v2 c3_i32_351
  let c1_i32_354 : BitVec 32 := 1#32
  let v425 : BitVec 32 := Scalar.muli v424 c1_i32_354
  let v426 : BitVec 32 := Scalar.addi c0_i32_355 v425
  v426.toNat
def k0_dev21 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_351 : BitVec 32 := 3#32
  let v424 : BitVec 32 := Scalar.xori v2 c3_i32_351
  let c1_i32_362 : BitVec 32 := 1#32
  let v433 : BitVec 32 := Scalar.muli v424 c1_i32_362
  let v434 : BitVec 32 := Scalar.addi c0_i32_363 v433
  v434.toNat
def k0_dev22 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_396 : BitVec 32 := 4#32
  let v471 : BitVec 32 := Scalar.xori v2 c4_i32_396
  let c1_i32_398 : BitVec 32 := 1#32
  let v472 : BitVec 32 := Scalar.muli v471 c1_i32_398
  let v473 : BitVec 32 := Scalar.addi c0_i32_399 v472
  v473.toNat
def k0_dev23 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_396 : BitVec 32 := 4#32
  let v471 : BitVec 32 := Scalar.xori v2 c4_i32_396
  let c1_i32_405 : BitVec 32 := 1#32
  let v480 : BitVec 32 := Scalar.muli v471 c1_i32_405
  let v481 : BitVec 32 := Scalar.addi c0_i32_406 v480
  v481.toNat
def k0_dev24 (d0 : Dev nD) : Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_439 : BitVec 32 := 1#32
  let v518 : BitVec 32 := Scalar.xori v2 c1_i32_439
  let c1_i32_441 : BitVec 32 := 1#32
  let v519 : BitVec 32 := Scalar.muli v518 c1_i32_441
  let v520 : BitVec 32 := Scalar.addi c0_i32_442 v519
  v520.toNat
def k0_dev25 (d0 : Dev nD) : Nat :=
  let c0_i32_449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_439 : BitVec 32 := 1#32
  let v518 : BitVec 32 := Scalar.xori v2 c1_i32_439
  let c1_i32_448 : BitVec 32 := 1#32
  let v527 : BitVec 32 := Scalar.muli v518 c1_i32_448
  let v528 : BitVec 32 := Scalar.addi c0_i32_449 v527
  v528.toNat
def k0_dev26 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_510 : BitVec 32 := 4#32
  let v595 : BitVec 32 := Scalar.xori v2 c4_i32_510
  let c1_i32_513 : BitVec 32 := 1#32
  let v596 : BitVec 32 := Scalar.muli v595 c1_i32_513
  let v597 : BitVec 32 := Scalar.addi c0_i32_514 v596
  v597.toNat
def k0_dev27 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_531 : BitVec 32 := 1#32
  let v618 : BitVec 32 := Scalar.xori v2 c1_i32_531
  let c1_i32_533 : BitVec 32 := 1#32
  let v619 : BitVec 32 := Scalar.muli v618 c1_i32_533
  let v620 : BitVec 32 := Scalar.addi c0_i32_534 v619
  v620.toNat
def k0_dev28 (d0 : Dev nD) : Nat :=
  let c0_i32_554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_551 : BitVec 32 := 3#32
  let v641 : BitVec 32 := Scalar.xori v2 c3_i32_551
  let c1_i32_553 : BitVec 32 := 1#32
  let v642 : BitVec 32 := Scalar.muli v641 c1_i32_553
  let v643 : BitVec 32 := Scalar.addi c0_i32_554 v642
  v643.toNat
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_828 : BitVec 32 := 0#32
  ![v2.toNat, 0]
def k0_dev29 (d0 : Dev nD) : Nat :=
  let c0_i32_827 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_823 : BitVec 32 := 1#32
  let v864 : BitVec 32 := Scalar.addi v2 c1_i32_823
  let c8_i32_824 : BitVec 32 := 8#32
  let v865 : BitVec 32 := Scalar.remsi v864 c8_i32_824
  let c1_i32_826 : BitVec 32 := 1#32
  let v866 : BitVec 32 := Scalar.muli v865 c1_i32_826
  let v867 : BitVec 32 := Scalar.addi c0_i32_827 v866
  v867.toNat
def k0_dev30 (d0 : Dev nD) : Nat :=
  let c0_i32_833 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_829 : BitVec 32 := 2#32
  let v873 : BitVec 32 := Scalar.addi v2 c2_i32_829
  let c8_i32_830 : BitVec 32 := 8#32
  let v874 : BitVec 32 := Scalar.remsi v873 c8_i32_830
  let c1_i32_832 : BitVec 32 := 1#32
  let v875 : BitVec 32 := Scalar.muli v874 c1_i32_832
  let v876 : BitVec 32 := Scalar.addi c0_i32_833 v875
  v876.toNat
def k0_dev31 (d0 : Dev nD) : Nat :=
  let c0_i32_839 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_835 : BitVec 32 := 3#32
  let v882 : BitVec 32 := Scalar.addi v2 c3_i32_835
  let c8_i32_836 : BitVec 32 := 8#32
  let v883 : BitVec 32 := Scalar.remsi v882 c8_i32_836
  let c1_i32_838 : BitVec 32 := 1#32
  let v884 : BitVec 32 := Scalar.muli v883 c1_i32_838
  let v885 : BitVec 32 := Scalar.addi c0_i32_839 v884
  v885.toNat
def k0_dev32 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_841 : BitVec 32 := 4#32
  let v891 : BitVec 32 := Scalar.addi v2 c4_i32_841
  let c8_i32_842 : BitVec 32 := 8#32
  let v892 : BitVec 32 := Scalar.remsi v891 c8_i32_842
  let c1_i32_844 : BitVec 32 := 1#32
  let v893 : BitVec 32 := Scalar.muli v892 c1_i32_844
  let v894 : BitVec 32 := Scalar.addi c0_i32_845 v893
  v894.toNat
def k0_dev33 (d0 : Dev nD) : Nat :=
  let c0_i32_851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_847 : BitVec 32 := 5#32
  let v900 : BitVec 32 := Scalar.addi v2 c5_i32_847
  let c8_i32_848 : BitVec 32 := 8#32
  let v901 : BitVec 32 := Scalar.remsi v900 c8_i32_848
  let c1_i32_850 : BitVec 32 := 1#32
  let v902 : BitVec 32 := Scalar.muli v901 c1_i32_850
  let v903 : BitVec 32 := Scalar.addi c0_i32_851 v902
  v903.toNat
def k0_dev34 (d0 : Dev nD) : Nat :=
  let c0_i32_857 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_853 : BitVec 32 := 6#32
  let v909 : BitVec 32 := Scalar.addi v2 c6_i32_853
  let c8_i32_854 : BitVec 32 := 8#32
  let v910 : BitVec 32 := Scalar.remsi v909 c8_i32_854
  let c1_i32_856 : BitVec 32 := 1#32
  let v911 : BitVec 32 := Scalar.muli v910 c1_i32_856
  let v912 : BitVec 32 := Scalar.addi c0_i32_857 v911
  v912.toNat
def k0_dev35 (d0 : Dev nD) : Nat :=
  let c0_i32_863 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_859 : BitVec 32 := 7#32
  let v918 : BitVec 32 := Scalar.addi v2 c7_i32_859
  let c8_i32_860 : BitVec 32 := 8#32
  let v919 : BitVec 32 := Scalar.remsi v918 c8_i32_860
  let c1_i32_862 : BitVec 32 := 1#32
  let v920 : BitVec 32 := Scalar.muli v919 c1_i32_862
  let v921 : BitVec 32 := Scalar.addi c0_i32_863 v920
  v921.toNat
def k0_off4 (d0 : Dev nD) (c1_i32_865 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v927 : BitVec 32 := Scalar.addi v2 c1_i32_865
  let c8_i32_866 : BitVec 32 := 8#32
  let v928 : BitVec 32 := Scalar.remsi v927 c8_i32_866
  ![v928.toNat]
def k0_off5 (d0 : Dev nD) (c1_i32_865 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v927 : BitVec 32 := Scalar.addi v2 c1_i32_865
  let c8_i32_866 : BitVec 32 := 8#32
  let v928 : BitVec 32 := Scalar.remsi v927 c8_i32_866
  let c0_i32_870 : BitVec 32 := 0#32
  ![v928.toNat, 0]
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Prog.lean ====
/- The kernel's body as a sequence of named steps. Each step is a few memory operations with the rest of
   the body as its last argument; the body is shown to be the sequence by unfolding. -/
module

public import proofs.«01_k».proof.Proof.Gen.KernelIdeal.Skeleton
public import proofs.«01_k».proof.Proof.Gen.KernelIdeal.Frame

@[expose] public section

set_option maxRecDepth 16384

noncomputable section

namespace Cert.KernelIdeal.Rsc

open Cert.KernelIdeal Cert.KernelIdeal.Gen
open Idealize.ShloMosaic Idealize.ShloMosaic.TcCoe Idealize.SL.Sem

variable {F : FTy → Type} [FloatOps F]

/-! ## Column groups, buffers and slabs -/

/-- The three groups of output columns. Each runs its own reduction tree. -/
inductive G | a | b | c
deriving DecidableEq

instance : Fintype G := ⟨{.a, .b, .c}, fun x => by cases x <;> decide⟩

/-- Columns in a group. -/
@[reducible] def Wd : G → ℕ
  | .a => 640
  | .b => 640
  | .c => 768

/-- First column of a group. -/
@[reducible] def Co : G → ℕ
  | .a => 0
  | .b => 640
  | .c => 1280

/-- One slab: 512 rows of a group's columns. -/
abbrev blk (g : G) : Shape := ⟨2, ![512, Wd g]⟩
/-- `k` slabs on top of each other. -/
abbrev big (k : ℕ) (g : G) : Shape := ⟨2, ![512 * k, Wd g]⟩

/-- A VMEM buffer as the body sees it. -/
abbrev VM (s : Shape) (e : EltTy) : Type := Memref sig .tc .vmem s e

def accM : (g : G) → VM (big 4 g) .bf16
  | .a => Memref.whole cc0_scratch0
  | .b => Memref.whole cc0_scratch1
  | .c => Memref.whole cc0_scratch2
def sndM : (g : G) → VM (big 4 g) .bf16
  | .a => Memref.whole cc0_scratch3
  | .b => Memref.whole cc0_scratch4
  | .c => Memref.whole cc0_scratch5
def rc0M : (g : G) → VM (big 4 g) .bf16
  | .a => Memref.whole cc0_scratch6
  | .b => Memref.whole cc0_scratch7
  | .c => Memref.whole cc0_scratch8
def rc1M : (g : G) → VM (big 2 g) .bf16
  | .a => Memref.whole cc0_scratch9
  | .b => Memref.whole cc0_scratch10
  | .c => Memref.whole cc0_scratch11
def rc2M : (g : G) → VM (blk g) .bf16
  | .a => Memref.whole cc0_scratch12
  | .b => Memref.whole cc0_scratch13
  | .c => Memref.whole cc0_scratch14
abbrev xM : VM S4096x512 .bf16 := Memref.whole cc0_scratch15
abbrev wM : VM S512x2048 .bf16 := Memref.whole cc0_scratch16
abbrev amM : VM S1x128 .f32 := Memref.whole cc0_scratch17
abbrev arM : VM S8x128 .f32 := Memref.whole cc0_scratch18
abbrev inX : VM S4096x512 .bf16 := Memref.whole cc0_stg0_0
abbrev inW : VM S512x2048 .bf16 := Memref.whole cc0_stg1_0
abbrev outM : VM S512x2048 .f32 := Memref.whole cc0_stg2_0

theorem accM_whole (g : G) : (accM g).IsWhole := by cases g <;> exact Memref.isWhole_whole _
theorem sndM_whole (g : G) : (sndM g).IsWhole := by cases g <;> exact Memref.isWhole_whole _
theorem rc0M_whole (g : G) : (rc0M g).IsWhole := by cases g <;> exact Memref.isWhole_whole _
theorem rc1M_whole (g : G) : (rc1M g).IsWhole := by cases g <;> exact Memref.isWhole_whole _
theorem rc2M_whole (g : G) : (rc2M g).IsWhole := by cases g <;> exact Memref.isWhole_whole _

theorem rowR_inb (k : ℕ) (g : G) (j : Fin k) :
    ∀ a, (![512 * j.val, 0] : Fin 2 → ℕ) a + (blk g).size a ≤ (big k g).size a :=
  Fin.forall_fin_two.mpr ⟨by show 512 * j.val + 512 ≤ 512 * k; have := j.isLt; omega, by show 0 + Wd g ≤ Wd g; omega⟩

/-- Slab `j` as a rectangle. -/
abbrev rowR (k : ℕ) (g : G) (j : Fin k) : Rect (big k g) :=
  Rect.unit (s := big k g) ![512 * j.val, 0] (blk g).size (rowR_inb k g j)

/-- Slab `j` of a buffer. -/
abbrev slab {k : ℕ} {g : G} (M : VM (big k g) .bf16) (j : Fin k) : VM (blk g) .bf16 :=
  M.slice (rowR k g j) (fun _ => rfl)

theorem rowR_packed (k : ℕ) (g : G) (j : Fin k) : (rowR k g j).PackedRows (EltTy.packing .bf16) :=
  .inr ⟨Nat.le_refl 2, rfl, .inl ⟨⟨256 * j.val, by show 512 * j.val = 2 * (256 * j.val); omega⟩, ⟨256, rfl⟩⟩⟩

theorem slab_exact {k : ℕ} {g : G} {M : VM (big k g) .bf16} (hM : M.IsWhole) (j : Fin k) :
    (slab M j).view.WordExact := hM.wordExact_slice rfl _ (rowR_packed k g j).wholeWords

theorem slab_stores {k : ℕ} {g : G} {M : VM (big k g) .bf16} (hM : M.IsWhole) (j : Fin k) :
    (M.access (rowR k g j)).StoreExact Finset.univ := hM.storeExact_slice rfl _ (rowR_packed k g j)

theorem blk_pos (g : G) : 0 < (blk g).numel := by cases g <;> decide

theorem colR_inb (g : G) : ∀ a, (![0, Co g] : Fin 2 → ℕ) a + (blk g).size a ≤ S512x2048.size a := by
  cases g <;> decide

/-- A group's columns of a 512-row buffer. -/
abbrev colR (g : G) : Rect S512x2048 := Rect.unit (s := S512x2048) ![0, Co g] (blk g).size (colR_inb g)

theorem whR_inb (g : G) : ∀ a, (![0, 0] : Fin 2 → ℕ) a + (blk g).size a ≤ (blk g).size a := by
  cases g <;> decide

abbrev whR (g : G) : Rect (blk g) := Rect.unit (s := blk g) ![0, 0] (blk g).size (whR_inb g)

/-! ## Transfers -/

/-- The remote copies a device makes: stage 0 (four slabs a group), stage 1 (two), stage 2 (one), and the
    seven copies of its largest entry. -/
inductive T
  | s0 (g : G) (j : Fin 4)
  | s1 (g : G) (j : Fin 2)
  | s2 (g : G)
  | am (o : Fin 7)
deriving DecidableEq

/-- The transfers by kind. -/
def T.equiv : ((G × Fin 4) ⊕ (G × Fin 2)) ⊕ (G ⊕ Fin 7) ≃ T where
  toFun
    | .inl (.inl (g, j)) => .s0 g j
    | .inl (.inr (g, j)) => .s1 g j
    | .inr (.inl g) => .s2 g
    | .inr (.inr o) => .am o
  invFun
    | .s0 g j => .inl (.inl (g, j))
    | .s1 g j => .inl (.inr (g, j))
    | .s2 g => .inr (.inl g)
    | .am o => .inr (.inr o)
  left_inv := by rintro ((⟨g, j⟩ | ⟨g, j⟩) | (g | o)) <;> rfl
  right_inv := by rintro (⟨g, j⟩ | ⟨g, j⟩ | g | o) <;> rfl

instance : Fintype T := Fintype.ofEquiv _ T.equiv

@[reducible] def T.shp : T → Shape
  | .s0 g _ => blk g
  | .s1 g _ => blk g
  | .s2 g => blk g
  | .am _ => S1x128

@[reducible] def T.elt : T → EltTy
  | .am _ => .f32
  | _ => .bf16

/-- Stage 1 copies slab 1 into slab 0 of the receive buffer and slab 3 into slab 1. -/
@[reducible] def odd2 : Fin 2 → Fin 4
  | 0 => 1
  | 1 => 3

/-- Where a transfer reads, on the sender. -/
def T.src : (t : T) → VM t.shp t.elt
  | .s0 g j => slab (sndM g) j
  | .s1 g j => slab (accM g) (odd2 j)
  | .s2 g => slab (accM g) 2
  | .am _ => amM

/-- Row `c` of the table of largest entries. -/
abbrev amRow (c : Dev nD) : VM S1x128 .f32 :=
  arM.slice (Rect.unit (s := S8x128) (k0_off3 c) S1x128.size (k0_off3_inb c)) (fun _ => rfl)

/-- Where a transfer from `c` writes, on the receiver. -/
def T.dst (c : Dev nD) : (t : T) → VM t.shp t.elt
  | .s0 g j => slab (rc0M g) j
  | .s1 g j => slab (rc1M g) j
  | .s2 g => rc2M g
  | .am _ => amRow c

theorem T.src_exact : (t : T) → t.src.view.WordExact
  | .s0 g j => slab_exact (sndM_whole g) j
  | .s1 g j => slab_exact (accM_whole g) (odd2 j)
  | .s2 g => slab_exact (accM_whole g) 2
  | .am _ => (Memref.isWhole_whole _).wordExact

theorem T.dst_exact (c : Dev nD) : (t : T) → (t.dst c).view.WordExact
  | .s0 g j => slab_exact (rc0M_whole g) j
  | .s1 g j => slab_exact (rc1M_whole g) j
  | .s2 g => (rc2M_whole g).wordExact
  | .am _ => View.wordExact_bits rfl

theorem S24_inb (i : Fin 24) : ∀ a, (![i.val] : Fin 1 → ℕ) a + S1.size a ≤ S24.size a := by revert i; decide
theorem S8_inb (i : Fin 8) : ∀ a, (![i.val] : Fin 1 → ℕ) a + S1.size a ≤ S8.size a := by revert i; decide

abbrev sem24 (A : DmaSems sig S24) (i : Fin 24) : DmaSem sig :=
  ((A.slice (Rect.unit (s := S24) ![i.val] S1.size (S24_inb i))).squeeze S_ squeezes_S1_S_).sem
abbrev sem8 (A : DmaSems sig S8) (i : Fin 8) : DmaSem sig :=
  ((A.slice (Rect.unit (s := S8) ![i.val] S1.size (S8_inb i))).squeeze S_ squeezes_S1_S_).sem

/-- A group's eight semaphores start here. -/
@[reducible] def G.base : G → ℕ
  | .a => 0
  | .b => 8
  | .c => 16

theorem G.base_lt (g : G) (i : Fin 8) : g.base + i.val < 24 := by cases g <;> simp only [G.base] <;> omega

/-- A transfer's place among its semaphores. -/
@[reducible] def T.slot : T → Fin 8
  | .s0 _ j => ⟨j.val, by omega⟩
  | .s1 _ j => ⟨4 + j.val, by omega⟩
  | .s2 _ => 6
  | .am o => ⟨1 + o.val, by omega⟩

/-- The semaphore a transfer's sender waits on. -/
def T.ssem : T → DmaSem sig
  | .s0 g j => sem24 cc0_scratch19 ⟨g.base + (T.s0 g j).slot.val, G.base_lt g _⟩
  | .s1 g j => sem24 cc0_scratch19 ⟨g.base + (T.s1 g j).slot.val, G.base_lt g _⟩
  | .s2 g => sem24 cc0_scratch19 ⟨g.base + (T.s2 g).slot.val, G.base_lt g _⟩
  | .am o => sem8 cc0_scratch21 (T.am o).slot

/-- The semaphore a transfer from `c` signals on the receiver. -/
def T.rsem (c : Dev nD) : T → DmaSem sig
  | .s0 g j => sem24 cc0_scratch20 ⟨g.base + (T.s0 g j).slot.val, G.base_lt g _⟩
  | .s1 g j => sem24 cc0_scratch20 ⟨g.base + (T.s1 g j).slot.val, G.base_lt g _⟩
  | .s2 g => sem24 cc0_scratch20 ⟨g.base + (T.s2 g).slot.val, G.base_lt g _⟩
  | .am _ => ((cc0_scratch22.slice (Rect.unit (s := S8) (k0_off2 c) S1.size (k0_off2_inb c))).squeeze S_ squeezes_S1_S_).sem

/-! ## Payloads, one for each group -/

/-- A product block, rounded for the reduction. -/
def prodV : (g : G) → Vec F S512x512 .bf16 → Vec F (blk g) .bf16 → Vec F (blk g) .bf16
  | .a => fun x y => k0_pay6 (k0_pay5 x y)
  | .b => k0_pay7
  | .c => k0_pay8

/-- Two partial sums added, rounded for the next stage. -/
def addV : (g : G) → Vec F (blk g) .bf16 → Vec F (blk g) .bf16 → Vec F (blk g) .bf16
  | .a => k0_pay32
  | .b => k0_pay34
  | .c => k0_pay36

/-- The last addition, not rounded. -/
def outV : (g : G) → Vec F (blk g) .bf16 → Vec F (blk g) .bf16 → Vec F (blk g) .f32
  | .a => k0_pay56
  | .b => k0_pay57
  | .c => k0_pay58

/-! ## Steps -/

abbrev P (F : FTy → Type) : Type 1 := Prog (TpuEff nD τ sig (Elt F) Λ₀ .tc) PUnit

/-! Whole buffers as rectangles. -/

abbrev R8x128 : Rect S8x128 := Rect.unit (s := S8x128) ![0, 0] S8x128.size inb_S8x128_S8x128_0_0
abbrev R1x128 : Rect S1x128 := Rect.unit (s := S1x128) ![0, 0] S1x128.size inb_S1x128_S1x128_0_0
abbrev RX : Rect S4096x512 := Rect.unit (s := S4096x512) ![0, 0] S4096x512.size inb_S4096x512_S4096x512_0_0
abbrev RW : Rect S512x2048 := Rect.unit (s := S512x2048) ![0, 0] S512x2048.size inb_S512x2048_S512x2048_0_0

abbrev barArr : Sems sig S_ := SemArray.scalar (sig.barrier 0 rfl)

/-- Clear the table of largest entries. -/
def stZero (k : P F) : P F :=
  .op (.load arM R8x128.toLoadRect (View.loadsAt_vmem h_S8x128)) fun _ =>
  .op (.store arM R8x128 k0_pay2 Finset.univ (View.stores_vmem_bits_univ h_S8x128 rfl) (.inl rfl)) fun _ => k

/-- Signal the barrier of device `n`. -/
def stSig (n : Dev nD) (k : P F) : P F :=
  .op (.semSignal ((n, .tc) : Thread nD τ) barArr.sem (1#32 : BitVec 32).toInt) fun _ => k

/-- Wait for the seven signals. -/
def stBar (k : P F) : P F :=
  .op (.semWait barArr.sem (7#32 : BitVec 32).toInt) fun _ => k

/-- Copy the two staged operands. -/
def stCast (k : P F) : P F :=
  .op (.load inX RX.toLoadRect (View.loadsAt_vmem h_S4096x512)) fun x =>
  .op (.load xM RX.toLoadRect (View.loadsAt_vmem h_S4096x512)) fun _ =>
  .op (.store xM RX (k0_pay3 x) Finset.univ (View.stores_vmem h_S4096x512 ((Memref.isWhole_whole _).storeExact_slice rfl _ packedbf16_S4096x512_S4096x512_0_0) (fun _ => rfl)) (.inl rfl)) fun _ =>
  .op (.load inW RW.toLoadRect (View.loadsAt_vmem h_S512x2048)) fun w =>
  .op (.load wM RW.toLoadRect (View.loadsAt_vmem h_S512x2048)) fun _ =>
  .op (.store wM RW (k0_pay4 w) Finset.univ (View.stores_vmem h_S512x2048 ((Memref.isWhole_whole _).storeExact_slice rfl _ packedbf16_S512x2048_S512x2048_0_0) (fun _ => rfl)) (.inl rfl)) fun _ => k

/-- The rows of the left operand for the block `c xor r`. -/
abbrev xR (c : Dev nD) (r : Fin 8) : Rect S4096x512 :=
  Rect.unit (s := S4096x512) (k0_off1 c (BitVec.ofNat 32 r.val)) S512x512.size (k0_off1_inb c r)

/-- Put a product block into slab `j` of `M`. -/
def stProd {g : G} (M : VM (big 4 g) .bf16) (hM : M.IsWhole) (j : Fin 4) (c : Dev nD) (r : Fin 8) (k : P F) : P F :=
  .op (.load xM (xR c r).toLoadRect (View.loadsAt_vmem h_S512x512)) fun x =>
  .op (.load wM (colR g).toLoadRect (View.loadsAt_vmem (blk_pos g))) fun y =>
  .op (.load M (rowR 4 g j).toLoadRect (View.loadsAt_vmem (blk_pos g))) fun _ =>
  .op (.store M (rowR 4 g j) (prodV g x y) Finset.univ (View.stores_vmem (blk_pos g) (slab_stores hM j) (fun _ => rfl)) (.inl rfl)) fun _ => k

/-- Start transfer `t` to device `n`. -/
def stSend (c : Dev nD) (t : T) (n : Dev nD) (k : P F) : P F :=
  .op (.enqueueDma t.src (.remote (Dev.tc n) (t.dst c) (.dma t.ssem)) (.dma (t.rsem c)) t.src_exact (t.dst_exact c)
    ⟨⟨rfl, Or.inl rfl⟩, trivial⟩) fun _ => k

/-- Wait for a slab to arrive. -/
def stRecv (c : Dev nD) (t : T) (k : P F) : P F :=
  .op (.waitDma2 (t.rsem c) t.src (t.dst c) t.src_exact (t.dst_exact c)) fun _ => k

/-- Wait for a sent slab to have left. -/
def stLeft (c : Dev nD) (t : T) (k : P F) : P F :=
  .op (.waitDma2 t.ssem (t.dst c) t.src (t.dst_exact c) t.src_exact) fun _ => k

/-- Add slab `i` of `B` to slab `j` of the accumulator. -/
def stAdd {n : ℕ} (g : G) (j : Fin 4) (B : VM (big n g) .bf16) (i : Fin n) (k : P F) : P F :=
  .op (.load (accM g) (rowR 4 g j).toLoadRect (View.loadsAt_vmem (blk_pos g))) fun x =>
  .op (.load B (rowR n g i).toLoadRect (View.loadsAt_vmem (blk_pos g))) fun y =>
  .op (.load (accM g) (rowR 4 g j).toLoadRect (View.loadsAt_vmem (blk_pos g))) fun _ =>
  .op (.store (accM g) (rowR 4 g j) (addV g x y) Finset.univ (View.stores_vmem (blk_pos g) (slab_stores (accM_whole g) j) (fun _ => rfl)) (.inl rfl)) fun _ => k

/-- The last addition, into the output's columns. -/
def stOut (g : G) (k : P F) : P F :=
  .op (.load (accM g) (rowR 4 g 0).toLoadRect (View.loadsAt_vmem (blk_pos g))) fun x =>
  .op (.load (rc2M g) (whR g).toLoadRect (View.loadsAt_vmem (blk_pos g))) fun y =>
  .op (.load outM (colR g).toLoadRect (View.loadsAt_vmem (blk_pos g))) fun _ =>
  .op (.store outM (colR g) (outV g x y) Finset.univ (View.stores_vmem_bits_univ (blk_pos g) rfl) (.inl rfl)) fun _ => k

/-- Store the largest entry of the device's own block. The rest of the body may read the block. -/
def stMax (k : Vec F S512x2048 .f32 → P F) : P F :=
  .op (.load outM RW.toLoadRect (View.loadsAt_vmem h_S512x2048)) fun v =>
  .op (.load amM R1x128.toLoadRect (View.loadsAt_vmem h_S1x128)) fun _ =>
  .op (.store amM R1x128 (k0_pay60 v) Finset.univ (View.stores_vmem_bits_univ h_S1x128 rfl) (.inl rfl)) fun _ => k v

/-- Wait for the row of the device `o + 1` places on. -/
def stRow (c : Dev nD) (o : Fin 7) (k : P F) : P F :=
  .op (.waitDma2 ((cc0_scratch22.slice (Rect.unit (s := S8) (k0_off4 c (BitVec.ofNat 32 (1 + o.val))) S1.size (k0_off4_inb c o))).squeeze S_ squeezes_S1_S_).sem amM
    (arM.slice (Rect.unit (s := S8x128) (k0_off5 c (BitVec.ofNat 32 (1 + o.val))) S1x128.size (k0_off5_inb c o)) (fun _ => rfl))
    (Memref.isWhole_whole _).wordExact (View.wordExact_bits rfl)) fun _ => k

/-- Quantise with the largest entry of all the devices. -/
def stFin (v : Vec F S512x2048 .f32) : P F :=
  .op (.load arM R8x128.toLoadRect (View.loadsAt_vmem h_S8x128)) fun t =>
  .op (.load outM RW.toLoadRect (View.loadsAt_vmem h_S512x2048)) fun y =>
  .op (.load outM RW.toLoadRect (View.loadsAt_vmem h_S512x2048)) fun _ =>
  .op (.store outM RW (k0_pay1 (k0_pay62 (k0_pay59 v) t y) (k0_pay63 (k0_pay59 v) t)) Finset.univ (View.stores_vmem_bits_univ h_S512x2048 rfl) (.inl rfl)) fun _ => .ret ⟨⟩

/-! ## The body -/

section Seq
variable (c : Dev nD)

/-- A product block of the first stage and its transfer. -/
def stBlk (g : G) (j : Fin 4) (r : Fin 8) (n : Dev nD) (k : P F) : P F :=
  stProd (sndM g) (sndM_whole g) j c r <| stSend c (.s0 g j) n k

def stOwn (g : G) (j : Fin 4) (r : Fin 8) (k : P F) : P F := stProd (accM g) (accM_whole g) j c r k

/-- Stage 0 arrives in slab `j`. -/
def stAcc0 (g : G) (j : Fin 4) (k : P F) : P F := stRecv c (.s0 g j) <| stAdd g j (rc0M g) j k
def stAcc1 (g : G) (i : Fin 2) (j : Fin 4) (k : P F) : P F := stRecv c (.s1 g i) <| stAdd g j (rc1M g) i k

def seqSig (k : P F) : P F :=
  stSig ⟨k0_dev1 c, k0_dev1_lt c⟩ <| stSig ⟨k0_dev2 c, k0_dev2_lt c⟩ <| stSig ⟨k0_dev3 c, k0_dev3_lt c⟩ <|
  stSig ⟨k0_dev4 c, k0_dev4_lt c⟩ <| stSig ⟨k0_dev5 c, k0_dev5_lt c⟩ <| stSig ⟨k0_dev6 c, k0_dev6_lt c⟩ <|
  stSig ⟨k0_dev7 c, k0_dev7_lt c⟩ k

def seqBlk (k : P F) : P F :=
  stBlk c .a 1 2 ⟨k0_dev8 c, k0_dev8_lt c⟩ <| stBlk c .b 1 7 ⟨k0_dev9 c, k0_dev9_lt c⟩ <| stBlk c .c 1 5 ⟨k0_dev10 c, k0_dev10_lt c⟩ <|
  stBlk c .a 3 6 ⟨k0_dev11 c, k0_dev11_lt c⟩ <| stBlk c .b 3 6 ⟨k0_dev12 c, k0_dev12_lt c⟩ <| stBlk c .c 3 6 ⟨k0_dev13 c, k0_dev13_lt c⟩ <|
  stBlk c .a 2 5 ⟨k0_dev14 c, k0_dev14_lt c⟩ <| stBlk c .b 2 2 ⟨k0_dev15 c, k0_dev15_lt c⟩ <| stBlk c .c 2 7 ⟨k0_dev16 c, k0_dev16_lt c⟩ <|
  stBlk c .a 0 1 ⟨k0_dev17 c, k0_dev17_lt c⟩ <| stBlk c .b 0 3 ⟨k0_dev18 c, k0_dev18_lt c⟩ <| stBlk c .c 0 4 ⟨k0_dev19 c, k0_dev19_lt c⟩ k

def seqOwn (k : P F) : P F :=
  stOwn c .a 1 3 <| stOwn c .b 1 4 <| stOwn c .c 1 1 <| stOwn c .a 3 7 <| stOwn c .b 3 5 <| stOwn c .c 3 2 <|
  stOwn c .a 2 4 <| stOwn c .b 2 1 <| stOwn c .c 2 3 <| stOwn c .a 0 0 <| stOwn c .b 0 0 <| stOwn c .c 0 0 k

/-- The odd slabs of a group are complete: send both on. -/
def stOdd (g : G) (n n' : Dev nD) (k : P F) : P F :=
  stAcc0 c g 1 <| stAcc0 c g 3 <| stSend c (.s1 g 1) n <| stSend c (.s1 g 0) n' k

def stMid (g : G) (n : Dev nD) (k : P F) : P F := stAcc1 c g 1 2 <| stSend c (.s2 g) n k
def stLow (g : G) (k : P F) : P F := stAcc0 c g 0 <| stAcc1 c g 0 0 k
def stEnd (g : G) (k : P F) : P F := stRecv c (.s2 g) <| stOut g k

def seqAcc (k : P F) : P F :=
  stOdd c .a ⟨k0_dev20 c, k0_dev20_lt c⟩ ⟨k0_dev21 c, k0_dev21_lt c⟩ <|
  stOdd c .b ⟨k0_dev22 c, k0_dev22_lt c⟩ ⟨k0_dev23 c, k0_dev23_lt c⟩ <|
  stOdd c .c ⟨k0_dev24 c, k0_dev24_lt c⟩ ⟨k0_dev25 c, k0_dev25_lt c⟩ <|
  stAcc0 c .a 2 <| stAcc0 c .b 2 <| stAcc0 c .c 2 <|
  stMid c .a ⟨k0_dev26 c, k0_dev26_lt c⟩ <| stMid c .b ⟨k0_dev27 c, k0_dev27_lt c⟩ <| stMid c .c ⟨k0_dev28 c, k0_dev28_lt c⟩ <|
  stLow c .a <| stLow c .b <| stLow c .c <| stEnd c .a <| stEnd c .b <| stEnd c .c k

def stGone (g : G) (k : P F) : P F :=
  stLeft c (.s0 g 0) <| stLeft c (.s0 g 1) <| stLeft c (.s0 g 2) <| stLeft c (.s0 g 3) <|
  stLeft c (.s1 g 0) <| stLeft c (.s1 g 1) <| stLeft c (.s2 g) k

def seqMax (k : P F) : P F :=
  stSend c (.am 0) ⟨k0_dev29 c, k0_dev29_lt c⟩ <| stSend c (.am 1) ⟨k0_dev30 c, k0_dev30_lt c⟩ <|
  stSend c (.am 2) ⟨k0_dev31 c, k0_dev31_lt c⟩ <| stSend c (.am 3) ⟨k0_dev32 c, k0_dev32_lt c⟩ <|
  stSend c (.am 4) ⟨k0_dev33 c, k0_dev33_lt c⟩ <| stSend c (.am 5) ⟨k0_dev34 c, k0_dev34_lt c⟩ <|
  stSend c (.am 6) ⟨k0_dev35 c, k0_dev35_lt c⟩ <|
  stRow c 0 <| stRow c 1 <| stRow c 2 <| stRow c 3 <| stRow c 4 <| stRow c 5 <| stRow c 6 <|
  stLeft c (.am 0) <| stLeft c (.am 1) <| stLeft c (.am 2) <| stLeft c (.am 3) <| stLeft c (.am 4) <| stLeft c (.am 5) <|
  stLeft c (.am 6) k

def prog : P F :=
  stZero <| seqSig c <| stBar <| stCast <| seqBlk c <| seqOwn c <| seqAcc c <|
  stGone c .a <| stGone c .b <| stGone c .c <| stMax fun v => seqMax c <| stFin v

end Seq

set_option maxRecDepth 65536 in
theorem body_eq (t : Fin cfg0.N) : bodyAt0 (F := F) t = .op .deviceId fun c => prog c := rfl

end Cert.KernelIdeal.Rsc

end
-- ==== Proof.Proto.lean ====
/- The protocol: who sends what to whom, the cells and the one round each runs, the values sent, and what a
   device owes at each moment. -/
module

public import proofs.«01_k».proof.Proof.Prog
public import Idealize.ShloMosaic.Lib.Pipeline.Launch
public import Idealize.ShloMosaic.Lib.Pipeline.Kit
public import Idealize.ShloMosaic.Lib.MemrefSat
public import Idealize.ShloMosaic.Lib.Tactic

@[expose] public section

set_option maxRecDepth 16384

noncomputable section

namespace Cert.KernelIdeal.Rsc

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Peers -/

theorem xr_lt (k : Fin 8) (c : Dev nD) : c.val ^^^ k.val < 8 := Nat.xor_lt_two_pow (n := 3) c.isLt k.isLt

/-- The device whose number differs from `c`'s in the bits of `k`. -/
def xr (k : Fin 8) (c : Dev nD) : Dev nD := ⟨c.val ^^^ k.val, xr_lt k c⟩

theorem xr_xr (k : Fin 8) (c : Dev nD) : xr k (xr k c) = c := by
  apply Fin.ext; show (c.val ^^^ k.val) ^^^ k.val = c.val; rw [Nat.xor_assoc, Nat.xor_self, Nat.xor_zero]

def xrE (k : Fin 8) : Dev nD ≃ Dev nD := ⟨xr k, xr k, xr_xr k, xr_xr k⟩

/-- `o + 1` places on. -/
def rot (o : Fin 7) (c : Dev nD) : Dev nD := ⟨(c.val + (o.val + 1)) % 8, Nat.mod_lt _ (by decide)⟩
def unrot (o : Fin 7) (c : Dev nD) : Dev nD := ⟨(c.val + (7 - o.val)) % 8, Nat.mod_lt _ (by decide)⟩

theorem unrot_rot (o : Fin 7) (c : Dev nD) : unrot o (rot o c) = c := by revert o c; decide
theorem rot_unrot (o : Fin 7) (c : Dev nD) : rot o (unrot o c) = c := by revert o c; decide
theorem unrot_eq (o : Fin 7) (c : Dev nD) : unrot o c = rot (Fin.rev o) c := by revert o c; decide
theorem rot_ne (o : Fin 7) (c : Dev nD) : rot o c ≠ c := by revert o c; decide
theorem rot_inj (c : Dev nD) : ∀ o o' : Fin 7, rot o c = rot o' c → o = o' := by revert c; decide
theorem rot_surj (c : Dev nD) : ∀ p, p ≠ c → ∃ o : Fin 7, rot o c = p := by revert c; decide

def rotE (o : Fin 7) : Dev nD ≃ Dev nD := ⟨rot o, unrot o, unrot_rot o, rot_unrot o⟩

/-- The bit each stage exchanges across. -/
@[reducible] def cur : G → Fin 8
  | .a => 1
  | .b => 3
  | .c => 4
@[reducible] def mid : G → Fin 8
  | .a => 3
  | .b => 4
  | .c => 1
@[reducible] def lst : G → Fin 8
  | .a => 4
  | .b => 1
  | .c => 3

/-- Where a transfer goes. -/
def T.to : T → Dev nD ≃ Dev nD
  | .s0 g _ => xrE (cur g)
  | .s1 g _ => xrE (mid g)
  | .s2 g => xrE (lst g)
  | .am o => rotE o

theorem T.to_ne (t : T) (c : Dev nD) : t.to c ≠ c := by revert t c; decide

/-- The block a slab of the first stage sends, and the one it keeps, counted from the device. -/
@[reducible] def rS : G → Fin 4 → Fin 8
  | .a => ![1, 2, 5, 6]
  | .b => ![3, 7, 2, 6]
  | .c => ![4, 5, 7, 6]
@[reducible] def rO : G → Fin 4 → Fin 8
  | .a => ![0, 3, 4, 7]
  | .b => ![0, 4, 1, 5]
  | .c => ![0, 1, 3, 2]

/-! ## Semaphores -/

abbrev barS : Sem sig := barArr.sem

/-- The numbers of a transfer's semaphores. -/
@[reducible] def T.sid : T → ℕ
  | .s0 g j => 3 + g.base + j.val
  | .s1 g j => 3 + g.base + 4 + j.val
  | .s2 g => 3 + g.base + 6
  | .am o => 52 + o.val
@[reducible] def T.rid (c : Dev nD) : T → ℕ
  | .s0 g j => 27 + g.base + j.val
  | .s1 g j => 27 + g.base + 4 + j.val
  | .s2 g => 27 + g.base + 6
  | .am _ => 59 + c.val

theorem ssem_val (t : T) : t.ssem.val = t.sid := by revert t; decide +kernel
theorem rsem_val (c : Dev nD) (t : T) : (t.rsem c).val = t.rid c := by revert t c; decide +kernel

theorem sid_inj : ∀ t t' : T, t.sid = t'.sid → t = t' := by decide +kernel
theorem rid_inj : ∀ (c : Dev nD) (t t' : T), t.rid (t.to.symm c) = t'.rid (t'.to.symm c) → t = t' := by decide +kernel
theorem sid_ne_rid : ∀ (c : Dev nD) (t t' : T), t.sid ≠ t'.rid c := by decide +kernel

theorem ssem_inj {t t' : T} (h : t.ssem = t'.ssem) : t = t' := sid_inj t t' (by rw [← ssem_val, ← ssem_val, h])
theorem rsem_inj {c : Dev nD} {t t' : T} (h : t.rsem (t.to.symm c) = t'.rsem (t'.to.symm c)) : t = t' :=
  rid_inj c t t' (by rw [← rsem_val, ← rsem_val, h])
theorem ssem_ne_rsem (c : Dev nD) (t t' : T) : t.ssem ≠ t'.rsem c := fun h =>
  sid_ne_rid c t t' (by rw [← ssem_val, ← rsem_val, h])

/-- The wait for the row of the device `o + 1` places on is at the semaphore that device's transfer signals. -/
theorem row_sem (c : Dev nD) (o : Fin 7) :
    ((cc0_scratch22.slice (Rect.unit (s := S8) (k0_off4 c (BitVec.ofNat 32 (1 + o.val))) S1.size (k0_off4_inb c o))).squeeze S_ squeezes_S1_S_).sem
      = (T.am (Fin.rev o)).rsem ((T.am (Fin.rev o)).to.symm c) := by
  revert o c; decide +kernel

/-- What a transfer credits. -/
def T.amt (t : T) : ℕ := (t.dst 0).view.dmaCredit

theorem dst_amt (t : T) (c : Dev nD) : (t.dst c).view.dmaCredit = t.amt := by
  rcases t with ⟨_ | _ | _, j⟩ | ⟨_ | _ | _, j⟩ | ⟨_ | _ | _⟩ | o <;> rfl
theorem src_amt (t : T) : t.src.view.dmaCredit = t.amt := by
  rcases t with ⟨_ | _ | _, j⟩ | ⟨_ | _ | _, j⟩ | ⟨_ | _ | _⟩ | o <;> rfl
theorem shp_pos (t : T) : 0 < t.shp.numel := by
  rcases t with ⟨g, j⟩ | ⟨g, j⟩ | g | o
  · exact blk_pos g
  · exact blk_pos g
  · exact blk_pos g
  · show 0 < S1x128.numel; decide
theorem amt_pos (t : T) : 0 < t.amt := View.dmaCredit_pos _ (shp_pos t)

/-! ## Cells -/

abbrev barCell (c : Dev nD) : GSem nD τ sig := ((c : Thread nD τ), .reg barS)
/-- The cell the sender of `t` waits on. -/
abbrev sndCell (c : Dev nD) (t : T) : GSem nD τ sig := ((c : Thread nD τ), .dma t.ssem)
/-- The cell `t` from `c` signals. -/
abbrev dstCell (c : Dev nD) (t : T) : GSem nD τ sig := ((t.to c : Thread nD τ), .dma (t.rsem c))
/-- The cell the receiver of `t` waits on. -/
abbrev rcvCell (c : Dev nD) (t : T) : GSem nD τ sig := ((c : Thread nD τ), .dma (t.rsem (t.to.symm c)))

theorem rcvCell_to (c : Dev nD) (t : T) : rcvCell (t.to c) t = dstCell c t := by
  unfold rcvCell dstCell; rw [Equiv.symm_apply_apply]

/-- The kernel's own semaphores. -/
abbrev osem (i : Fin 64) : SemLoc sig := .dma ⟨3 + i.val, by show 3 + i.val < 67; omega⟩
abbrev csem : Option (Fin 64) → SemLoc sig
  | none => .reg barS
  | some i => osem i
abbrev kcell (ck : Dev nD × Option (Fin 64)) : GSem nD τ sig := ((ck.1 : Thread nD τ), csem ck.2)

theorem ssem_range (t : T) : 3 ≤ t.ssem.val ∧ t.ssem.val < 67 := by rw [ssem_val]; revert t; decide
theorem rsem_range (c : Dev nD) (t : T) : 3 ≤ (t.rsem c).val ∧ (t.rsem c).val < 67 := by rw [rsem_val]; revert t c; decide

def six (t : T) : Fin 64 := ⟨t.ssem.val - 3, by have := ssem_range t; omega⟩
def rix (c : Dev nD) (t : T) : Fin 64 := ⟨(t.rsem c).val - 3, by have := rsem_range c t; omega⟩

theorem osem_six (t : T) : osem (six t) = .dma t.ssem := by
  refine congrArg SemLoc.dma (Fin.ext ?_); show 3 + (t.ssem.val - 3) = t.ssem.val; have := ssem_range t; omega
theorem osem_rix (c : Dev nD) (t : T) : osem (rix c t) = .dma (t.rsem c) := by
  refine congrArg SemLoc.dma (Fin.ext ?_); show 3 + ((t.rsem c).val - 3) = (t.rsem c).val; have := rsem_range c t; omega

/-! ## The values -/

section Values
variable (m : (ℓ : Loc nD τ sig) → Buf (Elt F) ℓ)

/-- The staged operands. -/
def xstg (c : Dev nD) : Vec F S4096x512 .bf16 := (win0_0.blk (0 : Fin 1)).view.read (Elt F) (m ((c : Thread nD τ).loc main_arg0))
def wstg (c : Dev nD) : Vec F S512x2048 .bf16 := (win0_1.blk (0 : Fin 1)).view.read (Elt F) (m ((c : Thread nD τ).loc main_arg1))

/-- The copies the products read. -/
def xv (c : Dev nD) : Vec F S4096x512 .bf16 := k0_pay3 (xstg m c)
def wv (c : Dev nD) : Vec F S512x2048 .bf16 := k0_pay4 (wstg m c)

/-- The product block of rows `c xor r`. -/
def blkV (c : Dev nD) (g : G) (r : Fin 8) : Vec F (blk g) .bf16 :=
  prodV g (fun i => xv m c ((xR c r).emb i)) (fun i => wv m c ((colR g).emb i))

def snd0 (c : Dev nD) (g : G) (j : Fin 4) : Vec F (blk g) .bf16 := blkV m c g (rS g j)
def own0 (c : Dev nD) (g : G) (j : Fin 4) : Vec F (blk g) .bf16 := blkV m c g (rO g j)
/-- A slab with the first stage's arrival added. -/
def acc1 (c : Dev nD) (g : G) (j : Fin 4) : Vec F (blk g) .bf16 :=
  addV g (own0 m c g j) (snd0 m ((T.s0 g j).to.symm c) g j)
/-- Slabs 2 and 0 with the second stage's arrival added. -/
def acc2 (c : Dev nD) (g : G) : Vec F (blk g) .bf16 := addV g (acc1 m c g 2) (acc1 m ((T.s1 g 1).to.symm c) g 3)
def low (c : Dev nD) (g : G) : Vec F (blk g) .bf16 := addV g (acc1 m c g 0) (acc1 m ((T.s1 g 0).to.symm c) g 1)
def outC (c : Dev nD) (g : G) : Vec F (blk g) .f32 := outV g (low m c g) (acc2 m ((T.s2 g).to.symm c) g)

/-- The group a column lies in. -/
def grp (n : ℕ) : G := if n < 640 then .a else if n < 1280 then .b else .c

theorem grp_bound (n : ℕ) (h : n < 2048) : n - Co (grp n) < Wd (grp n) := by
  unfold grp; split
  · show n - 0 < 640; omega
  · split
    · show n - 640 < 640; omega
    · show n - 1280 < 768; omega

/-- An index of a slab. -/
def ix (g : G) (i : Fin 512) (j : Fin (Wd g)) : (blk g).Idx := fun a => match a with
  | ⟨0, _⟩ => i
  | ⟨1, _⟩ => j

/-- The device's block of the product, all columns. -/
def yv (c : Dev nD) : Vec F S512x2048 .f32 := fun i =>
  outC m c (grp (i 1).val) (ix _ (i 0) ⟨(i 1).val - Co (grp (i 1).val), grp_bound _ (i 1).isLt⟩)

/-- What each transfer from `c` carries. -/
def T.val (c : Dev nD) : (t : T) → t.shp.Idx → Elt F t.elt
  | .s0 g j => snd0 m c g j
  | .s1 g i => acc1 m c g (odd2 i)
  | .s2 g => acc2 m c g
  | .am _ => k0_pay60 (yv m c)

end Values

/-- The share of its source a transfer holds: all of it, but for the seven copies of one row. -/
def rst : ℕ → PosShare TreeShare
  | 0 => fullShare
  | n + 1 => (rst n).right
def T.shr : T → PosShare TreeShare
  | .am o => (rst o.val).left
  | _ => fullShare

/-! ## The schedule -/

/-- Who pays into a cell: a neighbour at the barrier, or a transfer, at either end. -/
inductive Duty
  | bar (p : Dev nD)
  | snd (t : T)
  | rcv (t : T)
deriving DecidableEq

def Duty.equiv : (Dev nD ⊕ T) ⊕ T ≃ Duty where
  toFun
    | .inl (.inl p) => .bar p
    | .inl (.inr t) => .snd t
    | .inr t => .rcv t
  invFun
    | .bar p => .inl (.inl p)
    | .snd t => .inl (.inr t)
    | .rcv t => .inr t
  left_inv := by rintro ((p | t) | t) <;> rfl
  right_inv := by rintro (p | t | t) <;> rfl

instance : Fintype Duty := Fintype.ofEquiv _ Duty.equiv

abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The cell of device `d` a duty pays into. -/
def dsem (d : Dev nD) : Duty → Option (SemLoc sig)
  | .bar p => if p = d then none else some (.reg barS)
  | .snd t => some (.dma t.ssem)
  | .rcv t => some (.dma (t.rsem (t.to.symm d)))

/-- A separating product over two indices, the other way round. -/
theorem swap_over {I J : Type} [DecidableEq I] (s : Finset I) (t : Finset J) (Φ : I → J → sProp 𝕄) :
    (bigSep s fun i => bigSep t fun j => Φ i j) = bigSep t fun j => bigSep s fun i => Φ i j := by
  refine s.induction_on ?_ fun i r hi ih => ?_
  · simp only [bigSep_empty, bigSep_emp_const]
  · simp only [bigSep_insert hi, ih, bigSep_sep]

theorem dsem_bar_dma (c p : Dev nD) (q : DmaSem sig) : dsem c (.bar p) ≠ some (.dma q) := by
  show (if p = c then none else some (SemLoc.reg barS)) ≠ _
  split
  · intro h; cases h
  · intro h; cases h

section Pay
variable (m : (ℓ : Loc nD τ sig) → Buf (Elt F) ℓ)

/-- A device's buffer at contents `X`. -/
abbrev own' (c : Dev nD) {s : Shape} {e : EltTy} (M : VM s e) (q : PosShare TreeShare) (X : s.Idx → Elt F e) : sProp 𝕄 :=
  owns (Ix := Unit) (Name := ℕ) (U := UU) (Lvl := ℕ) (c : Thread nD τ) M q X
/-- A device's buffer at some contents. -/
abbrev ownE (F : FTy → Type) (c : Dev nD) {s : Shape} {e : EltTy} (M : VM s e) : sProp (MT nD τ sig Unit (Elt F) ℕ UU ℕ) :=
  iprop(∃ X : s.Idx → Elt F e, own' c M fullShare X)

/-- Where `t` from `c` lands, on its receiver. -/
def dstRes (F : FTy → Type) (c : Dev nD) (t : T) : sProp (MT nD τ sig Unit (Elt F) ℕ UU ℕ) := ownE F (t.to c) (t.dst c)

/-- What `p`'s signal hands `c`: every place on `p` that `c` writes. -/
def barPay (F : FTy → Type) (p c : Dev nD) : sProp (MT nD τ sig Unit (Elt F) ℕ UU ℕ) :=
  bigSep Finset.univ fun t : T => if t.to c = p then dstRes F c t else iprop(emp)

def sndPay (c : Dev nD) (t : T) : sProp 𝕄 := own' c t.src t.shr (t.val m c)
def rcvPay (c : Dev nD) (t : T) : sProp 𝕄 := own' c (t.dst (t.to.symm c)) fullShare (t.val m (t.to.symm c))

def pay (c : Dev nD) : Duty → sProp 𝕄
  | .bar p => barPay F p c
  | .snd t => sndPay m c t
  | .rcv t => rcvPay m c t

@[reducible] def Duty.amt : Duty → ℕ
  | .bar _ => 1
  | .snd t => t.amt
  | .rcv t => t.amt

/-- One round a cell. -/
def Rd : Rounds.Schedule (GSem nD τ sig) Duty 𝕄 where
  duties g r := if r = 0 ∧ g.1.2 = .tc then Finset.univ.filter (fun d => dsem g.1.1 d = some g.2) else ∅
  unitless _ := False
  amount _ _ d := d.amt
  payload g _ d := pay m g.1.1 d
  amount_pos _ _ d _ := by
    cases d
    · exact Nat.one_pos
    · exact amt_pos _
    · exact amt_pos _

instance dstRes_storable (c : Dev nD) (t : T) : BI.Storable (upEmb : UEmb _ 𝕄) (dstRes F c t) := by unfold dstRes; infer_instance
instance barPay_storable (p c : Dev nD) : BI.Storable (upEmb : UEmb _ 𝕄) (barPay F p c) := by
  unfold barPay
  have (t : T) : BI.Storable (upEmb : UEmb _ 𝕄) (if t.to c = p then dstRes F c t else iprop(emp)) := by split <;> infer_instance
  infer_instance

instance Rd_payload_storable (g : GSem nD τ sig) (r : ℕ) (d : Duty) :
    BI.Storable (upEmb : UEmb _ 𝕄) ((Rd (F := F) m).payload g r d) := by
  show BI.Storable upEmb (pay m g.1.1 d)
  cases d
  · exact barPay_storable _ _
  · show BI.Storable upEmb (sndPay m _ _); unfold sndPay; infer_instance
  · show BI.Storable upEmb (rcvPay m _ _); unfold rcvPay; infer_instance

theorem mem_duties (c : Dev nD) (s : SemLoc sig) (d : Duty) :
    d ∈ (Rd (F := F) m).duties ((c : Thread nD τ), s) 0 ↔ dsem c d = some s := by
  have h : (Rd (F := F) m).duties ((c : Thread nD τ), s) 0 = Finset.univ.filter (fun d => dsem c d = some s) := by
    show (if (0 : ℕ) = 0 ∧ ((c : Thread nD τ)).2 = (.tc : Proc τ) then Finset.univ.filter (fun d => dsem c d = some s) else ∅) = _
    rw [if_pos (And.intro rfl rfl)]
  rw [h, Finset.mem_filter]
  exact ⟨fun h => h.2, fun h => ⟨Finset.mem_univ _, h⟩⟩

theorem duties_later (g : GSem nD τ sig) : ∀ r, 1 ≤ r → (Rd (F := F) m).duties g r = ∅ :=
  fun r hr => if_neg fun h => by omega

theorem duties_snd (c : Dev nD) (t : T) : (Rd (F := F) m).duties (sndCell c t) 0 = {.snd t} := by
  ext d
  rw [mem_duties, Finset.mem_singleton]
  constructor
  · intro h
    cases d with
    | bar p => exact absurd h (dsem_bar_dma c p _)
    | snd t' => exact congrArg Duty.snd (ssem_inj (by injection Option.some.inj h))
    | rcv t' => exact absurd (by injection Option.some.inj h) (ssem_ne_rsem (t'.to.symm c) t t').symm
  · rintro rfl; rfl

theorem duties_rcv (c : Dev nD) (t : T) : (Rd (F := F) m).duties (rcvCell c t) 0 = {.rcv t} := by
  ext d
  rw [mem_duties, Finset.mem_singleton]
  constructor
  · intro h
    cases d with
    | bar p => exact absurd h (dsem_bar_dma c p _)
    | snd t' => exact absurd (by injection Option.some.inj h) (ssem_ne_rsem (t.to.symm c) t' t)
    | rcv t' => exact congrArg Duty.rcv (rsem_inj (by injection Option.some.inj h))
  · rintro rfl; rfl

theorem bar_inj : Function.Injective Duty.bar := fun _ _ h => by injection h

theorem duties_bar (c : Dev nD) : (Rd (F := F) m).duties (barCell c) 0 = (Finset.univ.erase c).image Duty.bar := by
  ext d
  rw [mem_duties, Finset.mem_image]
  constructor
  · intro h
    cases d with
    | bar p =>
      by_cases hp : p = c
      · rw [show dsem c (.bar p) = none from if_pos hp] at h; cases h
      · exact ⟨p, Finset.mem_erase.mpr ⟨hp, Finset.mem_univ _⟩, rfl⟩
    | snd t' => cases h
    | rcv t' => cases h
  · rintro ⟨p, hp, rfl⟩; exact if_neg (Finset.mem_erase.mp hp).1

theorem bar_mem (c p : Dev nD) (h : p ≠ c) : Duty.bar p ∈ (Rd (F := F) m).duties (barCell c) 0 := by
  rw [mem_duties]; exact if_neg h

theorem expect_snd (c : Dev nD) (t : T) : (Rd (F := F) m).expect (sndCell c t) 0 = t.amt := by
  unfold Schedule.expect Schedule.amountOf; rw [duties_snd, Finset.sum_singleton]; rfl
theorem expect_rcv (c : Dev nD) (t : T) : (Rd (F := F) m).expect (rcvCell c t) 0 = t.amt := by
  unfold Schedule.expect Schedule.amountOf; rw [duties_rcv, Finset.sum_singleton]; rfl
theorem expect_bar (c : Dev nD) : (Rd (F := F) m).expect (barCell c) 0 = 7 := by
  unfold Schedule.expect Schedule.amountOf
  rw [duties_bar, Finset.sum_image (fun a _ b _ h => bar_inj h)]
  show ∑ x ∈ Finset.univ.erase c, 1 = 7
  rw [Finset.sum_const, Finset.card_erase_of_mem (Finset.mem_univ _), Finset.card_univ, Fintype.card_fin]; rfl

theorem rest_snd (c : Dev nD) (t : T) :
    bigSep ((Rd (F := F) m).duties (sndCell c t) 0 \ ∅) (fun d => (Rd (F := F) m).payload (sndCell c t) 0 d) = sndPay m c t := by
  rw [Finset.sdiff_empty, duties_snd, bigSep_singleton]; rfl
theorem rest_rcv (c : Dev nD) (t : T) :
    bigSep ((Rd (F := F) m).duties (rcvCell c t) 0 \ ∅) (fun d => (Rd (F := F) m).payload (rcvCell c t) 0 d) = rcvPay m c t := by
  rw [Finset.sdiff_empty, duties_rcv, bigSep_singleton]; rfl

/-- What the seven signals bring: every place this device writes. -/
theorem rest_bar (c : Dev nD) :
    bigSep ((Rd (F := F) m).duties (barCell c) 0 \ ∅) (fun d => (Rd (F := F) m).payload (barCell c) 0 d)
      = bigSep Finset.univ fun t : T => dstRes F c t := by
  rw [Finset.sdiff_empty, duties_bar, bigSep_image_of_injOn (fun a _ b _ h => bar_inj h)]
  show (bigSep (Finset.univ.erase c) fun p => bigSep Finset.univ fun t : T => if t.to c = p then dstRes F c t else iprop(emp)) = _
  rw [swap_over]
  refine bigSep_congr fun t _ => ?_
  have e (p : Dev nD) : (if t.to c = p then dstRes F c t else iprop(emp) : sProp 𝕄) = if p = t.to c then dstRes F c t else iprop(emp) := by
    by_cases h : t.to c = p
    · rw [if_pos h, if_pos h.symm]
    · rw [if_neg h, if_neg fun h' => h h'.symm]
  simp only [e]
  refine (bigSep_filter (Finset.univ.erase c) (fun p => p = t.to c) (fun _ => dstRes F c t)).symm.trans ?_
  rw [Finset.filter_eq', if_pos (Finset.mem_erase.mpr ⟨T.to_ne t c, Finset.mem_univ _⟩), bigSep_singleton]

end Pay

/-! ## What a device owes; the levels -/

inductive Ob
  | sg (o : Fin 7)
  | tr (t : T)
deriving DecidableEq

def Ob.cell (c : Dev nD) : Ob → GSem nD τ sig
  | .sg o => barCell (rot o c)
  | .tr t => dstCell c t
def Ob.amt : Ob → ℕ
  | .sg _ => 1
  | .tr t => t.amt
@[reducible] def T.lvl : T → ℕ
  | .s0 _ _ => 2
  | .s1 _ _ => 3
  | .s2 _ => 4
  | .am _ => 5
@[reducible] def Ob.lvl : Ob → ℕ
  | .sg _ => 1
  | .tr t => t.lvl

/-- What is still owed, the next item first. -/
def obl (c : Dev nD) : List Ob → CellTallies nD τ sig Unit
  | [] => 0
  | x :: l => obl c l + tallyAt (x.cell c) () x.amt

def L (g : GSem nD τ sig) : Finset Unit := if g.1.2 = .tc then {()} else ∅
def lvS : SemLoc sig → ℕ
  | .reg _ => 1
  | .dma q => if 59 ≤ q.val then 5 else if 27 ≤ q.val ∧ q.val < 51 then (if (q.val - 27) % 8 < 4 then 2 else if (q.val - 27) % 8 < 6 then 3 else 4) else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_rsem (c : Dev nD) (t : T) : lvS (.dma (t.rsem c)) = t.lvl := by
  unfold lvS; simp only [rsem_val]; revert t c; decide
theorem lvS_ssem (t : T) : lvS (.dma t.ssem) = 0 := by
  unfold lvS; simp only [ssem_val]; revert t; decide

theorem lvS_ob (c : Dev nD) (x : Ob) : lvS (x.cell c).2 = x.lvl := by
  cases x
  · rfl
  · exact lvS_rsem c _
theorem L_ob (c : Dev nD) (x : Ob) : L (x.cell c) = {()} := by cases x <;> exact L_tc _ _

theorem obl_pos {c : Dev nD} {g : GSem nD τ sig} {u : Unit} : (l : List Ob) → 0 < obl c l g u → ∃ x ∈ l, g = x.cell c
  | [], h => absurd h (Nat.lt_irrefl 0)
  | x :: l, h => by
    unfold obl at h
    rw [Pi.add_apply, Finsupp.add_apply, tallyAt_apply] at h
    by_cases hx : g = x.cell c
    · exact ⟨x, List.mem_cons_self, hx⟩
    · rw [if_neg fun h' => hx h'.1, Nat.add_zero] at h
      obtain ⟨y, hy, e⟩ := obl_pos l h
      exact ⟨y, List.mem_cons_of_mem _ hy, e⟩

/-- A device may wait at a cell below everything it owes. -/
theorem mayWait (c : Dev nD) (s : SemLoc sig) (l : List Ob) (h : ∀ x ∈ l, lvS s < x.lvl) :
    (levAts L lv : sProp 𝕄) ⊢ MayWait (c : Thread nD τ) s () (obl c l) :=
  MayOwe.of_cut (L := L) (lev := lv) (lvS s) (fun p hp => by rw [Finset.mem_singleton.mp hp, L_tc]; exact Finset.mem_singleton_self _)
    (fun g u hg => by obtain ⟨x, _, rfl⟩ := obl_pos l hg; rw [L_ob]; exact Finset.mem_singleton_self _)
    (fun p hp => by rw [Finset.mem_singleton.mp hp]; exact Nat.le_refl _)
    (fun g u hg => by obtain ⟨x, hx, rfl⟩ := obl_pos l hg; show lvS s < lvS _; rw [lvS_ob]; exact h x hx)

/-- The transfers in the order they are started. -/
@[reducible] def sends : List T :=
  [.s0 .a 1, .s0 .b 1, .s0 .c 1, .s0 .a 3, .s0 .b 3, .s0 .c 3, .s0 .a 2, .s0 .b 2, .s0 .c 2, .s0 .a 0, .s0 .b 0, .s0 .c 0,
   .s1 .a 1, .s1 .a 0, .s1 .b 1, .s1 .b 0, .s1 .c 1, .s1 .c 0, .s2 .a, .s2 .b, .s2 .c,
   .am 0, .am 1, .am 2, .am 3, .am 4, .am 5, .am 6]

theorem sends_univ : (Finset.univ : Finset T) = sends.toFinset := by decide +kernel
theorem sends_nodup : sends.Nodup := by decide +kernel

@[reducible] def sigs : List (Fin 7) := [0, 1, 2, 3, 4, 5, 6]

/-- Everything a device owes at launch. -/
@[reducible] def obs : List Ob := sigs.map .sg ++ sends.map .tr

/-! ## The printed device numbers -/

section Devs
variable (c : Dev nD)

theorem sig_dev : (⟨k0_dev1 c, k0_dev1_lt c⟩ : Dev nD) = rot 0 c ∧ (⟨k0_dev2 c, k0_dev2_lt c⟩ : Dev nD) = rot 1 c
    ∧ (⟨k0_dev3 c, k0_dev3_lt c⟩ : Dev nD) = rot 2 c ∧ (⟨k0_dev4 c, k0_dev4_lt c⟩ : Dev nD) = rot 3 c
    ∧ (⟨k0_dev5 c, k0_dev5_lt c⟩ : Dev nD) = rot 4 c ∧ (⟨k0_dev6 c, k0_dev6_lt c⟩ : Dev nD) = rot 5 c
    ∧ (⟨k0_dev7 c, k0_dev7_lt c⟩ : Dev nD) = rot 6 c := by
  revert c; decide +kernel

theorem blk_dev : (⟨k0_dev8 c, k0_dev8_lt c⟩ : Dev nD) = xr 1 c ∧ (⟨k0_dev9 c, k0_dev9_lt c⟩ : Dev nD) = xr 3 c ∧ (⟨k0_dev10 c, k0_dev10_lt c⟩ : Dev nD) = xr 4 c
    ∧ (⟨k0_dev11 c, k0_dev11_lt c⟩ : Dev nD) = xr 1 c ∧ (⟨k0_dev12 c, k0_dev12_lt c⟩ : Dev nD) = xr 3 c ∧ (⟨k0_dev13 c, k0_dev13_lt c⟩ : Dev nD) = xr 4 c
    ∧ (⟨k0_dev14 c, k0_dev14_lt c⟩ : Dev nD) = xr 1 c ∧ (⟨k0_dev15 c, k0_dev15_lt c⟩ : Dev nD) = xr 3 c ∧ (⟨k0_dev16 c, k0_dev16_lt c⟩ : Dev nD) = xr 4 c
    ∧ (⟨k0_dev17 c, k0_dev17_lt c⟩ : Dev nD) = xr 1 c ∧ (⟨k0_dev18 c, k0_dev18_lt c⟩ : Dev nD) = xr 3 c ∧ (⟨k0_dev19 c, k0_dev19_lt c⟩ : Dev nD) = xr 4 c := by
  revert c; decide +kernel

theorem acc_dev : (⟨k0_dev20 c, k0_dev20_lt c⟩ : Dev nD) = xr 3 c ∧ (⟨k0_dev21 c, k0_dev21_lt c⟩ : Dev nD) = xr 3 c
    ∧ (⟨k0_dev22 c, k0_dev22_lt c⟩ : Dev nD) = xr 4 c ∧ (⟨k0_dev23 c, k0_dev23_lt c⟩ : Dev nD) = xr 4 c
    ∧ (⟨k0_dev24 c, k0_dev24_lt c⟩ : Dev nD) = xr 1 c ∧ (⟨k0_dev25 c, k0_dev25_lt c⟩ : Dev nD) = xr 1 c
    ∧ (⟨k0_dev26 c, k0_dev26_lt c⟩ : Dev nD) = xr 4 c ∧ (⟨k0_dev27 c, k0_dev27_lt c⟩ : Dev nD) = xr 1 c ∧ (⟨k0_dev28 c, k0_dev28_lt c⟩ : Dev nD) = xr 3 c := by
  revert c; decide +kernel

theorem max_dev : (⟨k0_dev29 c, k0_dev29_lt c⟩ : Dev nD) = rot 0 c ∧ (⟨k0_dev30 c, k0_dev30_lt c⟩ : Dev nD) = rot 1 c
    ∧ (⟨k0_dev31 c, k0_dev31_lt c⟩ : Dev nD) = rot 2 c ∧ (⟨k0_dev32 c, k0_dev32_lt c⟩ : Dev nD) = rot 3 c
    ∧ (⟨k0_dev33 c, k0_dev33_lt c⟩ : Dev nD) = rot 4 c ∧ (⟨k0_dev34 c, k0_dev34_lt c⟩ : Dev nD) = rot 5 c
    ∧ (⟨k0_dev35 c, k0_dev35_lt c⟩ : Dev nD) = rot 6 c := by
  revert c; decide +kernel

end Devs

end Cert.KernelIdeal.Rsc

end
-- ==== Proof.Steps.lean ====
/- One rule for each step of the body: what it needs, what it leaves. -/
module

public import proofs.«01_k».proof.Proof.Proto

@[expose] public section

set_option maxRecDepth 16384

noncomputable section

namespace Cert.KernelIdeal.Rsc

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The body's remainder on device `c`. -/
abbrev W (c : Dev nD) (p : P F) (Q : PUnit.{1} → sProp 𝕄) : sProp 𝕄 :=
  wp frame (wpE (defs₀ (F := F)) 𝒱₀ (c : Thread nD τ) none) Set.univ p Q

/-! ## Buffers -/

section Buffers
variable {c : Dev nD} {s : Shape} {e : EltTy}

/-- A slice owned, read through its rectangle. -/
theorem ld {Q : PUnit.{1} → sProp 𝕄} {M : VM s e} {r : Rect s} (hr : ∀ a, r.stride a = 1) {hl : M.view.LoadsAt r.toLoadRect} {k : (r.shape.Idx → Elt F e) → P F}
    (q : PosShare TreeShare) (X : r.shape.Idx → Elt F e) :
    own' c (M.slice r hr) q X ⊢ iprop((own' c (M.slice r hr) q X -∗ W c (k X) Q) -∗ W c (.op (.load M r.toLoadRect hl) k) Q) := by
  unfold own' owns
  iintro ⟨%f, %hf, H⟩ Hk
  iapply (wp_load_rect 𝒱₀ (c : Thread nD τ) none Set.univ (m := M) (r := r) (Finset.Subset.refl _)) $$ H
  iintro H
  rw [show (M.access r).read (Elt F) f = X from hf]
  iapply Hk
  iexists f
  isplitr; · ipureintro; exact hf
  iexact H

/-- A whole buffer owned, read through a rectangle. -/
theorem ldw {Q : PUnit.{1} → sProp 𝕄} {M : VM s e} {r : Rect s} {hl : M.view.LoadsAt r.toLoadRect} {k : (r.shape.Idx → Elt F e) → P F}
    (q : PosShare TreeShare) (X : s.Idx → Elt F e) :
    own' c M q X ⊢ iprop((own' c M q X -∗ W c (k fun i => X (r.emb i)) Q) -∗ W c (.op (.load M r.toLoadRect hl) k) Q) := by
  unfold own' owns
  iintro ⟨%f, %hf, H⟩ Hk
  iapply (wp_load_rect 𝒱₀ (c : Thread nD τ) none Set.univ (m := M) (r := r) (View.set_slice_subset _ _)) $$ H
  iintro H
  rw [show (M.access r).read (Elt F) f = fun i => X (r.emb i) from by rw [← hf]; rfl]
  iapply Hk
  iexists f
  isplitr; · ipureintro; exact hf
  iexact H

/-- A slice owned, stored through its rectangle. -/
theorem st {Q : PUnit.{1} → sProp 𝕄} {M : VM s e} {r : Rect s} (hr : ∀ a, r.stride a = 1) {w : r.shape.Idx → Elt F e} {hx : (M.access r).Stores Finset.univ}
    {hm : (Finset.univ : Finset r.shape.Idx) = Finset.univ ∨ ∀ a, r.stride a = 1} {k : PUnit → P F} (X : r.shape.Idx → Elt F e) :
    own' c (M.slice r hr) fullShare X
      ⊢ iprop((own' c (M.slice r hr) fullShare w -∗ W c (k ⟨⟩) Q) -∗ W c (.op (.store M r w Finset.univ hx hm) k) Q) := by
  unfold own' owns
  iintro ⟨%f, %hf, H⟩ Hk
  iapply (wp_store 𝒱₀ (c : Thread nD τ) none Set.univ (m := M) (r := r) (Mk := Finset.univ) (S := (M.access r).set) (Finset.Subset.refl _)) $$ H
  iintro H
  iapply Hk
  iexists _
  isplitr; swap; · iexact H
  ipureintro
  exact View.read_write_univ f w

/-- A buffer overwritten through a rectangle that covers it. -/
theorem stw {Q : PUnit.{1} → sProp 𝕄} {M : VM s e} {r : Rect s} (hset : r.set = Finset.univ) {w : r.shape.Idx → Elt F e} {hx : (M.access r).Stores Finset.univ}
    {hm : (Finset.univ : Finset r.shape.Idx) = Finset.univ ∨ ∀ a, r.stride a = 1} {k : PUnit → P F} (X Y : s.Idx → Elt F e)
    (hY : ∀ i, Y (r.emb i) = w i) :
    own' c M fullShare X
      ⊢ iprop((own' c M fullShare Y -∗ W c (k ⟨⟩) Q) -∗ W c (.op (.store M r w Finset.univ hx hm) k) Q) := by
  unfold own' owns
  iintro ⟨%f, %hf, H⟩ Hk
  iapply (wp_store 𝒱₀ (c : Thread nD τ) none Set.univ (m := M) (r := r) (Mk := Finset.univ) (View.set_slice_subset _ _)) $$ H
  iintro H
  iapply Hk
  iexists _
  isplitr; swap; · iexact H
  ipureintro
  funext x
  obtain ⟨i, rfl⟩ := r.exists_idx_of_mem (hset ▸ Finset.mem_univ x)
  exact (congrFun (View.read_write_univ (v := M.access r) f w) i).trans (hY i).symm

end Buffers

theorem hz2 : (![0, 0] : Fin 2 → ℕ) = fun _ => 0 := funext fun a => by fin_cases a <;> rfl

/-! ## Names, and what every step may use -/

section Protocol
variable (m : (ℓ : Loc nD τ sig) → Buf (Elt F) ℓ) (K : Dev nD × Option (Fin 64) → ℕ)

def recs : sProp 𝕄 :=
  bigSep Finset.univ fun ck : Dev nD × Option (Fin 64) => iprop(cellInv ER (Rd m) (K ck) (kcell ck) ∗ reached ER (kcell ck) 0)
def ctx : sProp 𝕄 := iprop(recs m K ∗ levAts L lv)

instance recs_persistent : BI.Persistent (recs m K) := by unfold recs; infer_instance
instance ctx_persistent : BI.Persistent (ctx m K) := by unfold ctx; infer_instance

theorem ctx_cell (ck : Dev nD × Option (Fin 64)) : ctx m K ⊢ iprop(cellInv ER (Rd m) (K ck) (kcell ck) ∗ reached ER (kcell ck) 0) := by
  have h : recs m K ⊢ iprop(cellInv ER (Rd m) (K ck) (kcell ck) ∗ reached ER (kcell ck) 0) := bigSep_elim (Finset.mem_univ ck)
  unfold ctx
  iintro ⟨HR, -⟩
  iapply h; iexact HR

theorem ctx_bar (c : Dev nD) : ctx m K ⊢ iprop(cellInv ER (Rd m) (K (c, none)) (barCell c) ∗ reached ER (barCell c) 0) :=
  ctx_cell m K (c, none)
theorem ctx_snd (c : Dev nD) (t : T) :
    ctx m K ⊢ iprop(cellInv ER (Rd m) (K (c, some (six t))) (sndCell c t) ∗ reached ER (sndCell c t) 0) := by
  have h := ctx_cell m K (c, some (six t))
  unfold kcell csem at h; simp only [osem_six] at h; exact h
theorem ctx_rcv (d c : Dev nD) (t : T) :
    ctx m K ⊢ iprop(cellInv ER (Rd m) (K (d, some (rix c t))) ((d : Thread nD τ), .dma (t.rsem c)) ∗ reached ER ((d : Thread nD τ), .dma (t.rsem c)) 0) := by
  have h := ctx_cell m K (d, some (rix c t))
  unfold kcell csem at h; simp only [osem_rix] at h; exact h
theorem ctx_lev : ctx m K ⊢ (levAts L lv : sProp 𝕄) := by unfold ctx; iintro ⟨-, H⟩; iexact H

theorem payload_bar (d p : Dev nD) : (Rd m).payload (barCell d) 0 (.bar p) = barPay F p d := rfl

/-- What the device owes, the next item first. -/
def ow (F : FTy → Type) (c : Dev nD) (l : List Ob) : sProp (MT nD τ sig Unit (Elt F) ℕ UU ℕ) :=
  iprop(∃ w : Waits sig Unit, owes (c : Thread nD τ) (obl c l) w)

/-- What a transfer needs beside its source: the tokens of its two duties, its position at the cell it will wait on,
    and the place it writes. -/
def due (F : FTy → Type) (c : Dev nD) (t : T) : sProp (MT nD τ sig Unit (Elt F) ℕ UU ℕ) :=
  iprop(dutyTok ER (sndCell c t) 0 (.snd t) ∗ dutyTok ER (dstCell c t) 0 (.rcv t) ∗ atPos ER (sndCell c t) 0 ∅ 0 ∗ dstRes F c t)
/-- A transfer to come. -/
def inbox (F : FTy → Type) (c : Dev nD) (t : T) : sProp (MT nD τ sig Unit (Elt F) ℕ UU ℕ) :=
  iprop(cred (tallyAt (rcvCell c t) () t.amt) ∗ atPos ER (rcvCell c t) 0 ∅ 0)
/-- A transfer on its way. -/
def left (F : FTy → Type) (c : Dev nD) (t : T) : sProp (MT nD τ sig Unit (Elt F) ℕ UU ℕ) :=
  iprop(cred (tallyAt (sndCell c t) () t.amt) ∗ atPos ER (sndCell c t) 0 ∅ 0)
/-- A transfer that has left. -/
def back (c : Dev nD) (t : T) : sProp 𝕄 := iprop(semVal (sndCell c t) 0 ∗ sndPay m c t)

variable {c : Dev nD}

theorem wp_sig {Q : PUnit.{1} → sProp 𝕄} {k : P F} (o : Fin 7) (n : Dev nD) (hn : n = rot o c) (l : List Ob) :
    iprop(ctx m K ∗ dutyTok ER (barCell (rot o c)) 0 (.bar c) ∗ barPay F c (rot o c) ∗ ow F c (.sg o :: l))
      ⊢ iprop((ow F c l -∗ W c k Q) -∗ W c (stSig n k) Q) := by
  subst hn
  unfold ow stSig
  iintro ⟨#HC, Ht, Hp, %w, Ho⟩ Hk
  ihave HI := (ctx_bar m K (rot o c)) $$ HC
  icases HI with ⟨#HI, #HR⟩
  iapply (Rounds.wp_signal 𝒱₀ ER (Rd m) (c : Thread nD τ) none (dst := (rot o c : Thread nD τ)) (κ := K (rot o c, none))
      (d := Duty.bar c) (bar_mem m (rot o c) c (rot_ne o c).symm) (k' := (1#32 : BitVec 32).toInt.toNat) rfl () (obl c l) rfl (W := w)) $$ [Ht Hp Ho]
  · isplitr; · iexact HI
    isplitl [Ho]; · iexact Ho
    isplitl [Ht]; · iexact Ht
    isplitl [Hp]; · iapply (Entails.of_eq (payload_bar m (rot o c) c).symm); iexact Hp
    iexact HR
  iintro Ho
  iapply Hk
  iexists w; iexact Ho

theorem wp_bar {Q : PUnit.{1} → sProp 𝕄} {k : P F} (l : List Ob) (hl : ∀ x ∈ l, 1 < x.lvl) :
    iprop(ctx m K ∗ cred (tallyAt (barCell c) () 7) ∗ atPos ER (barCell c) 0 ∅ 0 ∗ ow F c l)
      ⊢ iprop(((semVal (barCell c) 0 ∗ (bigSep Finset.univ fun t : T => dstRes F c t) ∗ ow F c l) -∗ W c k Q) -∗ W c (stBar k) Q) := by
  unfold ow stBar
  iintro ⟨#HC, Hc, Ha, %w, Ho⟩ Hk
  ihave HI := (ctx_bar m K c) $$ HC
  icases HI with ⟨#HI, #HR⟩
  ihave #HL := (ctx_lev m K) $$ HC
  iapply (Rounds.wp_wait_rest_token 𝒱₀ ER (Rd m) (c : Thread nD τ) none (κ := K (c, none))
      (wpE_semWait_eq 𝒱₀ (c : Thread nD τ) none Set.univ) (Set.mem_univ _) () (O := obl c l) (W := w) (R := 0) (m := 0) (T := ∅)
      (by rw [expect_bar]; decide)) $$ [Hc Ha Ho]
  · isplitr; · iexact HI
    isplitl [Hc]; · iexact Hc
    isplitl [Ho]; · iexact Ho
    isplitr; · iapply (mayWait c (.reg barS) l hl); iexact HL
    iexact Ha
  iintro ⟨Ho, Ha, -, Hp⟩
  ihave Hp := (Entails.of_eq (rest_bar m c)) $$ Hp
  imod (Rounds.cell_close ER (Rd m) (Set.mem_univ (K (c, none))) (fun h => h) (R := 0 + 1) (duties_later m (barCell c))) $$ [Ha] with Hz
  · isplitr; · iexact HI
    iexact Ha
  iapply Hk
  isplitl [Hz]; · iexact Hz
  isplitl [Hp]; · iexact Hp
  iexists _; iexact Ho

theorem wp_send {Q : PUnit.{1} → sProp 𝕄} {k : P F} (t : T) (n : Dev nD) (hn : n = t.to c) (l : List Ob) :
    iprop(ctx m K ∗ own' c t.src t.shr (t.val m c) ∗ due F c t ∗ ow F c (.tr t :: l))
      ⊢ iprop(((left F c t ∗ ow F c l) -∗ W c k Q) -∗ W c (stSend c t n k) Q) := by
  subst hn
  unfold ow stSend due left dstRes ownE own' owns
  iintro ⟨#HC, ⟨%fs, %hfs, Hs⟩, ⟨Ht1, Ht2, Ha, %X, %fd, -, Hd⟩, %w, Ho⟩ Hk
  ihave HI := (ctx_snd m K c t) $$ HC
  icases HI with ⟨#HI1, #HR1⟩
  ihave HI := (ctx_rcv m K (t.to c) c t) $$ HC
  icases HI with ⟨#HI2, #HR2⟩
  iapply (Rounds.wp_send_pointsTo 𝒱₀ ER (Rd m) (c : Thread nD τ) none (c' := (t.to c : Thread nD τ)) (src := t.src) (dst := t.dst c)
    (sS := .dma t.ssem) (sem := .dma (t.rsem c)) (κ₁ := K (c, some (six t))) (κ₂ := K (t.to c, some (rix c t)))
    (r₁ := 0) (r₂ := 0) (d₁ := Duty.snd t) (d₂ := Duty.rcv t) (fs := fs) (fd := fd)
    (by rw [duties_snd]; exact Finset.mem_singleton_self _)
    (by rw [mem_duties]; show some (SemLoc.dma (t.rsem (t.to.symm (t.to c)))) = _; rw [Equiv.symm_apply_apply])
    () () t.amt (dst_amt t c) rfl rfl (obl c l) rfl (W := w)
    (by show _ ⊢ sndPay m c t
        unfold sndPay own' owns
        iintro H; iexists fs; isplitr; · ipureintro; exact hfs
        iexact H)
    (by show _ ⊢ rcvPay m (t.to c) t
        unfold rcvPay own' owns
        rw [Equiv.symm_apply_apply]
        iintro H; iexists _; isplitr; swap; · iexact H
        ipureintro; rw [View.read_write_univ]; exact hfs)) $$ [Hs Hd Ho Ht1 Ht2]
  · isplitr; · iexact HI1
    isplitr; · iexact HI2
    isplitl [Hs]; · iexact Hs
    isplitl [Hd]; · iexact Hd
    isplitl [Ho]; · iexact Ho
    isplitl [Ht1]; · iexact Ht1
    isplitr; · iexact HR1
    isplitl [Ht2]; · iexact Ht2
    iexact HR2
  iintro ⟨Hc, Ho⟩
  iapply Hk
  isplitl [Hc Ha]
  · isplitl [Hc]; · iexact Hc
    iexact Ha
  iexists w; iexact Ho

theorem wp_got {Q : PUnit.{1} → sProp 𝕄} {k : P F} (t : T) {sm : DmaSem sig} (hs : sm = t.rsem (t.to.symm c)) {s : Shape} {e : EltTy} {src dst : VM s e}
    (ha : dst.view.dmaCredit = t.amt) {h1 : src.view.WordExact} {h2 : dst.view.WordExact} (l : List Ob) (hl : ∀ x ∈ l, t.lvl < x.lvl) :
    iprop(ctx m K ∗ inbox F c t ∗ ow F c l)
      ⊢ iprop(((semVal (rcvCell c t) 0 ∗ rcvPay m c t ∗ ow F c l) -∗ W c k Q) -∗ W c (.op (.waitDma2 sm src dst h1 h2) fun _ => k) Q) := by
  subst hs
  unfold ow inbox
  iintro ⟨#HC, ⟨Hc, Ha⟩, %w, Ho⟩ Hk
  ihave HI := (ctx_rcv m K c (t.to.symm c) t) $$ HC
  icases HI with ⟨#HI, #HR⟩
  ihave #HL := (ctx_lev m K) $$ HC
  iapply (Rounds.wp_wait_rest_token 𝒱₀ ER (Rd m) (c : Thread nD τ) none (κ := K (c, some (rix (t.to.symm c) t)))
      (wpE_waitDma2_eq 𝒱₀ (c : Thread nD τ) none Set.univ) (Set.mem_univ _) () (O := obl c l) (W := w) (R := 0) (m := 0) (T := ∅)
      (by rw [Nat.zero_add, expect_rcv, ha])) $$ [Hc Ha Ho]
  · isplitr; · iexact HI
    isplitl [Hc]; · rw [ha]; iexact Hc
    isplitl [Ho]; · iexact Ho
    isplitr
    · iapply (mayWait c (.dma (t.rsem (t.to.symm c))) l (fun x hx => by rw [lvS_rsem]; exact hl x hx)); iexact HL
    iexact Ha
  iintro ⟨Ho, Ha, -, Hp⟩
  ihave Hp := (Entails.of_eq (rest_rcv m c t)) $$ Hp
  imod (Rounds.cell_close ER (Rd m) (Set.mem_univ (K (c, some (rix (t.to.symm c) t)))) (fun h => h) (R := 0 + 1) (duties_later m (rcvCell c t))) $$ [Ha] with Hz
  · isplitr; · iexact HI
    iexact Ha
  iapply Hk
  isplitl [Hz]; · iexact Hz
  isplitl [Hp]; · iexact Hp
  iexists _; iexact Ho

theorem wp_left {Q : PUnit.{1} → sProp 𝕄} {k : P F} (t : T) (l : List Ob) (hl : ∀ x ∈ l, 0 < x.lvl) :
    iprop(ctx m K ∗ left F c t ∗ ow F c l)
      ⊢ iprop(((back m c t ∗ ow F c l) -∗ W c k Q) -∗ W c (stLeft c t k) Q) := by
  unfold ow left back stLeft
  iintro ⟨#HC, ⟨Hc, Ha⟩, %w, Ho⟩ Hk
  ihave HI := (ctx_snd m K c t) $$ HC
  icases HI with ⟨#HI, #HR⟩
  ihave #HL := (ctx_lev m K) $$ HC
  iapply (Rounds.wp_wait_rest_token 𝒱₀ ER (Rd m) (c : Thread nD τ) none (κ := K (c, some (six t)))
      (wpE_waitDma2_eq 𝒱₀ (c : Thread nD τ) none Set.univ) (Set.mem_univ _) () (O := obl c l) (W := w) (R := 0) (m := 0) (T := ∅)
      (by rw [Nat.zero_add, expect_snd, src_amt])) $$ [Hc Ha Ho]
  · isplitr; · iexact HI
    isplitl [Hc]; · rw [src_amt]; iexact Hc
    isplitl [Ho]; · iexact Ho
    isplitr
    · iapply (mayWait c (.dma t.ssem) l (fun x hx => by rw [lvS_ssem]; exact hl x hx)); iexact HL
    iexact Ha
  iintro ⟨Ho, Ha, -, Hp⟩
  ihave Hp := (Entails.of_eq (rest_snd m c t)) $$ Hp
  imod (Rounds.cell_close ER (Rd m) (Set.mem_univ (K (c, some (six t)))) (fun h => h) (R := 0 + 1) (duties_later m (sndCell c t))) $$ [Ha] with Hz
  · isplitr; · iexact HI
    iexact Ha
  iapply Hk
  isplitl [Hz Hp]
  · isplitl [Hz]; · iexact Hz
    iexact Hp
  iexists _; iexact Ho

end Protocol

end Cert.KernelIdeal.Rsc

end
-- ==== Proof.Split.lean ====
/- Buffers cut into the parts the protocol passes around, and put back. -/
module

public import proofs.«01_k».proof.Proof.Steps

@[expose] public section

set_option maxRecDepth 16384

noncomputable section

namespace Cert.KernelIdeal.Rsc

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families of rectangles, one for each value of a selector -/

section Families
variable {I : Type} [Fintype I] [DecidableEq I] {s : Shape} (r : I → Rect s) (sel : s.Idx → I)
  (h1 : ∀ t j, sel ((r t).emb j) = t) (h2 : ∀ x, ∃ j, (r (sel x)).emb j = x)
include h1

theorem fam_disj (t t' : I) (h : t ≠ t') : Disjoint (r t).set (r t').set := by
  rw [Finset.disjoint_left]
  intro x hx hx'
  obtain ⟨j, rfl⟩ := (r t).exists_idx_of_mem hx
  obtain ⟨j', e⟩ := (r t').exists_idx_of_mem hx'
  refine h ?_
  rw [← h1 t j, ← h1 t' j']
  exact congrArg sel e.symm

include h2

theorem fam_cover : (Finset.univ : Finset I).biUnion (fun t => (r t).set) = Finset.univ := by
  refine Finset.eq_univ_iff_forall.mpr fun x => Finset.mem_biUnion.mpr ⟨sel x, Finset.mem_univ _, ?_⟩
  obtain ⟨j, hj⟩ := h2 x
  rw [← Rect.map_emb_univ, Finset.mem_map]
  exact ⟨j, Finset.mem_univ _, hj⟩

/-- Contents of the parts come from contents of the whole. -/
theorem fam_glue {α : Type} (Y : (t : I) → (r t).shape.Idx → α) : ∃ X : s.Idx → α, ∀ t j, X ((r t).emb j) = Y t j := by
  refine ⟨fun x => Y (sel x) (h2 x).choose, fun t j => ?_⟩
  have key : ∀ (t' : I) (ht : t' = t) (j' : (r t').shape.Idx), (r t').emb j' = (r t).emb j → Y t' j' = Y t j := by
    rintro t' rfl j' hj
    rw [(r t').emb.injective hj]
  exact key _ (h1 t j) _ (h2 ((r t).emb j)).choose_spec

variable (c : Dev nD) {e : EltTy} (M : VM s e) (hr : ∀ t a, (r t).stride a = 1) [∀ e, Nonempty (Elt F e)]

theorem fam_split (X : s.Idx → Elt F e) :
    own' c M fullShare X ⊢ bigSep Finset.univ fun t => own' c (M.slice (r t) (hr t)) fullShare (fun j => X ((r t).emb j)) :=
  owns_rects (c : Thread nD τ) M fullShare r hr (fam_disj r sel h1) (fam_cover r sel h1 h2) X

theorem fam_join (X : s.Idx → Elt F e) :
    (bigSep Finset.univ fun t => own' c (M.slice (r t) (hr t)) fullShare (fun j => X ((r t).emb j))) ⊢ own' c M fullShare X :=
  owns_of_rects (c : Thread nD τ) M fullShare r hr (fam_disj r sel h1) (fam_cover r sel h1 h2) X

theorem fam_splitE : ownE F c M ⊢ bigSep Finset.univ fun t => ownE F c (M.slice (r t) (hr t)) := by
  have h (X : s.Idx → Elt F e) : (bigSep Finset.univ fun t => own' c (M.slice (r t) (hr t)) fullShare (fun j => X ((r t).emb j)))
      ⊢ bigSep Finset.univ fun t => ownE F c (M.slice (r t) (hr t)) :=
    bigSep_mono (fun t _ => (show own' c (M.slice (r t) (hr t)) fullShare (fun j => X ((r t).emb j)) ⊢ ownE F c (M.slice (r t) (hr t)) by
      iintro H; iexists _; iexact H))
  iintro ⟨%X, H⟩
  iapply (h X)
  iapply (fam_split r sel h1 h2 c M hr X) $$ H

theorem fam_joinE : (bigSep Finset.univ fun t => ownE F c (M.slice (r t) (hr t))) ⊢ ownE F c M := by
  refine (bigSep_exists_pi Finset.univ (fun t (X : (r t).shape.Idx → Elt F e) => own' c (M.slice (r t) (hr t)) fullShare X)).trans ?_
  iintro ⟨%Y, H⟩
  obtain ⟨X, hX⟩ := fam_glue r sel h1 h2 Y
  iexists X
  iapply (fam_join r sel h1 h2 c M hr X)
  have e : (bigSep Finset.univ fun t => own' c (M.slice (r t) (hr t)) fullShare (Y t) : sProp 𝕄)
      = bigSep Finset.univ fun t => own' c (M.slice (r t) (hr t)) fullShare (fun j => X ((r t).emb j)) :=
    bigSep_congr fun t _ => by rw [show Y t = fun j => X ((r t).emb j) from funext fun j => (hX t j).symm]
  iapply (Entails.of_eq e); iexact H

end Families

/-! ## Slabs -/

section Slabs
variable (k : ℕ) (g : G)

def slabOf (x : (big k g).Idx) : Fin k := ⟨(x 0).val / 512, Nat.div_lt_of_lt_mul (x 0).isLt⟩

theorem slab_sel (t : Fin k) (j : (rowR k g t).shape.Idx) : slabOf k g ((rowR k g t).emb j) = t := by
  refine Fin.ext ?_
  show (512 * t.val + 1 * (j 0).val) / 512 = t.val
  have : (j 0).val < 512 := (j 0).isLt
  omega

theorem slab_idx (x : (big k g).Idx) : ∃ j, (rowR k g (slabOf k g x)).emb j = x := by
  refine ⟨ix g ⟨(x 0).val % 512, Nat.mod_lt _ (by decide)⟩ ⟨(x 1).val, (x 1).isLt⟩, ?_⟩
  funext a
  refine Fin.ext ?_
  match a with
  | ⟨0, _⟩ => show 512 * ((x 0).val / 512) + 1 * ((x 0).val % 512) = (x 0).val; omega
  | ⟨1, _⟩ => show 0 + 1 * (x 1).val = (x 1).val; omega

variable {k g} [∀ e, Nonempty (Elt F e)] (c : Dev nD) (M : VM (big k g) .bf16)

theorem slabs_split : ownE F c M ⊢ bigSep Finset.univ fun j => ownE F c (slab M j) :=
  fam_splitE (rowR k g) (slabOf k g) (slab_sel k g) (slab_idx k g) c M (fun _ _ => rfl)
theorem slabs_join : (bigSep Finset.univ fun j => ownE F c (slab M j)) ⊢ ownE F c M :=
  fam_joinE (rowR k g) (slabOf k g) (slab_sel k g) (slab_idx k g) c M (fun _ _ => rfl)

end Slabs

/-! ## Column groups -/

abbrev col (g : G) : VM (blk g) .f32 := outM.slice (colR g) (fun _ => rfl)

theorem col_sel (g : G) (j : (colR g).shape.Idx) : grp ((colR g).emb j 1).val = g := by
  have h : ((colR g).emb j 1).val = Co g + 1 * (j 1).val := rfl
  have hj : (j 1).val < Wd g := (j 1).isLt
  rw [h]
  unfold grp
  cases g
  · rw [if_pos (by show 0 + 1 * (j 1).val < 640; change (j 1).val < 640 at hj; omega)]
  · change (j 1).val < 640 at hj
    rw [if_neg (by show ¬ 640 + 1 * (j 1).val < 640; omega), if_pos (by show 640 + 1 * (j 1).val < 1280; omega)]
  · change (j 1).val < 768 at hj
    rw [if_neg (by show ¬ 1280 + 1 * (j 1).val < 640; omega), if_neg (by show ¬ 1280 + 1 * (j 1).val < 1280; omega)]

theorem Co_grp_le (n : ℕ) : Co (grp n) ≤ n := by
  unfold grp; split
  · exact Nat.zero_le _
  · split
    · show 640 ≤ n; omega
    · show 1280 ≤ n; omega

theorem col_idx (x : S512x2048.Idx) : ∃ j, (colR (grp (x 1).val)).emb j = x := by
  refine ⟨ix _ (x 0) ⟨(x 1).val - Co (grp (x 1).val), grp_bound _ (x 1).isLt⟩, ?_⟩
  funext a
  refine Fin.ext ?_
  match a with
  | ⟨0, _⟩ => show 0 + 1 * (x 0).val = (x 0).val; omega
  | ⟨1, _⟩ =>
    show Co (grp (x 1).val) + 1 * ((x 1).val - Co (grp (x 1).val)) = (x 1).val
    have := Co_grp_le (x 1).val; omega

section Cols
variable (m : (ℓ : Loc nD τ sig) → Buf (Elt F) ℓ) [∀ e, Nonempty (Elt F e)] (c : Dev nD)

/-- A group's columns of the block. -/
theorem yv_col (g : G) (j : (blk g).Idx) : yv m c ((colR g).emb j) = outC m c g j := by
  have hs := col_sel g j
  have hv : ((colR g).emb j 1).val = Co g + 1 * (j 1).val := rfl
  have h0 : (colR g).emb j 0 = (⟨(j 0).val, (j 0).isLt⟩ : Fin 512) := Fin.ext (by show 0 + 1 * (j 0).val = (j 0).val; omega)
  unfold yv
  have key : ∀ (g' : G) (hg : g' = g) (hb : ((colR g).emb j 1).val - Co g' < Wd g'),
      outC m c g' (ix g' ((colR g).emb j 0) ⟨((colR g).emb j 1).val - Co g', hb⟩) = outC m c g j := by
    rintro g' rfl hb
    congr 1
    funext a
    refine Fin.ext ?_
    match a with
    | ⟨0, _⟩ => show ((colR g').emb j 0).val = (j 0).val; rw [h0]
    | ⟨1, _⟩ => show ((colR g').emb j 1).val - Co g' = (j 1).val; rw [hv]; omega
  exact key _ hs _

theorem cols_split : ownE F c outM ⊢ bigSep Finset.univ fun g => ownE F c (col g) :=
  fam_splitE colR (fun x => grp (x 1).val) col_sel col_idx c outM (fun _ _ => rfl)
theorem cols_join : (bigSep Finset.univ fun g => own' c (col g) fullShare (outC m c g)) ⊢ own' c outM fullShare (yv m c) := by
  have h := fam_join colR (fun x => grp (x 1).val) col_sel col_idx c outM (fun _ _ => rfl) (yv m c)
  have e (g : G) : (fun j => yv m c ((colR g).emb j)) = outC m c g := funext (yv_col m c g)
  simp only [e] at h
  exact h

end Cols

/-! ## Rows of the table -/

abbrev amR (d : Dev nD) : Rect S8x128 := Rect.unit (s := S8x128) (k0_off3 d) S1x128.size (k0_off3_inb d)

theorem amR_emb (d : Dev nD) (j : (amR d).shape.Idx) : ((amR d).emb j 0).val = d.val ∧ ((amR d).emb j 1).val = (j 1).val := by
  have h0 : (j 0).val = 0 := by have : (j 0).val < 1 := (j 0).isLt; omega
  constructor
  · show k0_off3 d 0 + 1 * (j 0).val = d.val
    rw [k0_off3_eq, h0]; rfl
  · show k0_off3 d 1 + 1 * (j 1).val = (j 1).val
    rw [k0_off3_eq]; show 0 + 1 * (j 1).val = (j 1).val; omega

theorem row_sel (d : Dev nD) (j : (amR d).shape.Idx) : ((amR d).emb j 0 : Fin 8) = d := Fin.ext (amR_emb d j).1

theorem row_idx (x : S8x128.Idx) : ∃ j, (amR (x 0)).emb j = x := by
  have hj : ∃ j : (amR (x 0)).shape.Idx, (j 1).val = (x 1).val :=
    ⟨fun a => match a with | ⟨0, _⟩ => (⟨0, by decide⟩ : Fin 1) | ⟨1, _⟩ => (⟨(x 1).val, (x 1).isLt⟩ : Fin 128), rfl⟩
  obtain ⟨j, hj⟩ := hj
  refine ⟨j, funext fun a => Fin.ext ?_⟩
  match a with
  | ⟨0, _⟩ => exact (amR_emb (x 0) j).1
  | ⟨1, _⟩ => exact (amR_emb (x 0) j).2.trans hj

section Table
variable (m : (ℓ : Loc nD τ sig) → Buf (Elt F) ℓ) [∀ e, Nonempty (Elt F e)] (c : Dev nD)

/-- An index of a row. -/
def rix1 (j : Fin 128) : S1x128.Idx := fun a => match a with
  | ⟨0, _⟩ => (⟨0, by decide⟩ : Fin 1)
  | ⟨1, _⟩ => j

/-- Row `d` of the table as device `c` reads it at the end. -/
def rowV (d : Dev nD) : Vec F S1x128 .f32 :=
  if d = c then fun j => k0_pay2 ((amR c).emb j) else k0_pay60 (yv m d)

/-- The table of largest entries device `c` reads. -/
def tbl : Vec F S8x128 .f32 := fun x => rowV m c (x 0) (rix1 (x 1))

theorem tbl_row (d : Dev nD) (j : S1x128.Idx) : tbl m c ((amR d).emb j) = rowV m c d j := by
  unfold tbl
  rw [row_sel]
  congr 1
  funext a
  refine Fin.ext ?_
  match a with
  | ⟨0, _⟩ => show 0 = (j 0).val; have : (j 0).val < 1 := (j 0).isLt; omega
  | ⟨1, _⟩ => exact (amR_emb d j).2

theorem rows_split : own' c arM fullShare (k0_pay2 (F := F)) ⊢ bigSep Finset.univ fun d => own' c (amRow d) fullShare (fun j => k0_pay2 (F := F) ((amR d).emb j)) :=
  fam_split amR (fun x => x 0) row_sel row_idx c arM (fun _ _ => rfl) k0_pay2
theorem rows_join : (bigSep Finset.univ fun d => own' c (amRow d) fullShare (rowV m c d)) ⊢ own' c arM fullShare (tbl m c) := by
  have h := fam_join amR (fun x => x 0) row_sel row_idx c arM (fun _ _ => rfl) (tbl m c)
  have e (d : Dev nD) : (fun j => tbl m c ((amR d).emb j)) = rowV m c d := funext (tbl_row m c d)
  simp only [e] at h
  exact h

end Table

/-! ## Rectangles that are the whole buffer -/

theorem unit_full_emb {s : Shape} {off : Fin s.rank → ℕ} (inb : ∀ a, off a + s.size a ≤ s.size a) (i : (Rect.unit off s.size inb).shape.Idx) :
    (Rect.unit off s.size inb).emb i = i := by
  funext a
  refine Fin.ext ?_
  show off a + 1 * (i a).val = (i a).val
  have := inb a; omega

theorem unit_full_set {s : Shape} {off : Fin s.rank → ℕ} (inb : ∀ a, off a + s.size a ≤ s.size a) : (Rect.unit off s.size inb).set = Finset.univ := by
  refine Finset.eq_univ_iff_forall.mpr fun x => ?_
  rw [← Rect.map_emb_univ, Finset.mem_map]
  exact ⟨x, Finset.mem_univ _, unit_full_emb inb x⟩

section Whole
variable {c : Dev nD} {s : Shape} {e : EltTy} {M : VM s e} {off : Fin s.rank → ℕ} {inb : ∀ a, off a + s.size a ≤ s.size a}

theorem ldf {Q : PUnit.{1} → sProp 𝕄} {hl : M.view.LoadsAt (Rect.unit off s.size inb).toLoadRect} {k : (s.Idx → Elt F e) → P F} (q : PosShare TreeShare) (X : s.Idx → Elt F e) :
    own' c M q X ⊢ iprop((own' c M q X -∗ W c (k X) Q) -∗ W c (.op (.load M (Rect.unit off s.size inb).toLoadRect hl) k) Q) := by
  have h := ldw (c := c) (M := M) (r := Rect.unit off s.size inb) (hl := hl) (k := k) (Q := Q) q X
  rw [show (fun i => X ((Rect.unit off s.size inb).emb i)) = X from funext fun i => congrArg X (unit_full_emb inb i)] at h
  exact h

theorem stf {Q : PUnit.{1} → sProp 𝕄} {w : s.Idx → Elt F e} {hx : (M.access (Rect.unit off s.size inb)).Stores Finset.univ}
    {hm : (Finset.univ : Finset (Rect.unit off s.size inb).shape.Idx) = Finset.univ ∨ ∀ a, (Rect.unit off s.size inb).stride a = 1}
    {k : PUnit → P F} (X : s.Idx → Elt F e) :
    own' c M fullShare X
      ⊢ iprop((own' c M fullShare w -∗ W c (k ⟨⟩) Q) -∗ W c (.op (.store M (Rect.unit off s.size inb) w Finset.univ hx hm) k) Q) :=
  stw (unit_full_set inb) X w fun i => congrArg w (unit_full_emb inb i)

end Whole

end Cert.KernelIdeal.Rsc

end
-- ==== Proof.Moves.lean ====
/- The body's steps over the bundle of everything in flight. -/
module

public import proofs.«01_k».proof.Proof.Split

@[expose] public section

set_option maxRecDepth 16384

noncomputable section

namespace Cert.KernelIdeal.Rsc

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists of resources -/

/-- `Φ` at every member of a list. -/
def stk {I : Type} (Φ : I → sProp 𝕄) : List I → sProp 𝕄
  | [] => iprop(emp)
  | t :: l => iprop(Φ t ∗ stk Φ l)

theorem stk_cons {I : Type} (Φ : I → sProp 𝕄) (t : I) (l : List I) : stk Φ (t :: l) = iprop(Φ t ∗ stk Φ l) := rfl

theorem stk_eq {I : Type} [DecidableEq I] (Φ : I → sProp 𝕄) : (l : List I) → l.Nodup → stk Φ l = bigSep l.toFinset Φ
  | [], _ => by rw [List.toFinset_nil, bigSep_empty]; rfl
  | t :: l, h => by
    rw [List.toFinset_cons, bigSep_insert (by rw [List.mem_toFinset]; exact (List.nodup_cons.mp h).1), ← stk_eq Φ l (List.nodup_cons.mp h).2]; rfl

/-- The order does not matter. -/
theorem stk_perm {I : Type} [DecidableEq I] (Φ : I → sProp 𝕄) {l l' : List I} (h : l.Nodup) (h' : l'.Nodup) (e : l.toFinset = l'.toFinset) :
    stk Φ l = stk Φ l' := by rw [stk_eq Φ l h, stk_eq Φ l' h', e]

theorem stk_univ {I : Type} [Fintype I] [DecidableEq I] (Φ : I → sProp 𝕄) (l : List I) (h : Finset.univ = l.toFinset) (h' : l.Nodup) :
    bigSep Finset.univ Φ = stk Φ l := by rw [stk_eq Φ l h', h]

/-! ## Everything in flight -/

section Moves
variable (m : (ℓ : Loc nD τ sig) → Buf (Elt F) ℓ) (K : Dev nD × Option (Fin 64) → ℕ)

/-- Where `t` lands on device `c`. -/
def slot (F : FTy → Type) (c : Dev nD) (t : T) : sProp (MT nD τ sig Unit (Elt F) ℕ UU ℕ) := ownE F c (t.dst (t.to.symm c))

/-- What stays once an arrival is used: a row of the table keeps its contents. -/
def kept (c : Dev nD) : T → sProp 𝕄
  | .am o => rcvPay m c (.am o)
  | .s0 g j => slot F c (.s0 g j)
  | .s1 g j => slot F c (.s1 g j)
  | .s2 g => slot F c (.s2 g)
def done (c : Dev nD) (t : T) : sProp 𝕄 := iprop(semVal (rcvCell c t) 0 ∗ kept m c t)

theorem kept_am (c : Dev nD) (o : Fin 7) : rcvPay m c (.am o) ⊢ kept m c (.am o) := .rfl
theorem kept_s0 (c : Dev nD) (g : G) (j : Fin 4) {X : Vec F (blk g) .bf16} : own' c (slab (rc0M g) j) fullShare X ⊢ kept m c (.s0 g j) := by
  show _ ⊢ ownE F c (slab (rc0M g) j)
  iintro H; iexists X; iexact H
theorem kept_s1 (c : Dev nD) (g : G) (j : Fin 2) {X : Vec F (blk g) .bf16} : own' c (slab (rc1M g) j) fullShare X ⊢ kept m c (.s1 g j) := by
  show _ ⊢ ownE F c (slab (rc1M g) j)
  iintro H; iexists X; iexact H
theorem kept_s2 (c : Dev nD) (g : G) {X : Vec F (blk g) .bf16} : own' c (rc2M g) fullShare X ⊢ kept m c (.s2 g) := by
  show _ ⊢ ownE F c (rc2M g)
  iintro H; iexists X; iexact H
theorem got_s2 (c : Dev nD) (g : G) : rcvPay m c (.s2 g) ⊢ own' c (rc2M g) fullShare (acc2 m ((T.s2 g).to.symm c) g) := .rfl

/-- Transfers to start, on their way, to arrive; those that have left, and those that have arrived. -/
def St (c : Dev nD) (sl ll il zl zr : List T) : sProp 𝕄 :=
  iprop(stk (due F c) sl ∗ stk (left F c) ll ∗ stk (inbox F c) il ∗ stk (back m c) zl ∗ stk (done m c) zr ∗ ow F c (sl.map .tr))

variable {c : Dev nD} {sl ll il zl zr : List T}

theorem s_send {Q : PUnit.{1} → sProp 𝕄} {k : P F} (t : T) (n : Dev nD) (hn : n = t.to c) :
    iprop(ctx m K ∗ own' c t.src t.shr (t.val m c) ∗ St m c (t :: sl) ll il zl zr)
      ⊢ iprop((St m c sl (t :: ll) il zl zr -∗ W c k Q) -∗ W c (stSend c t n k) Q) := by
  unfold St; simp only [stk_cons]
  iintro ⟨#HC, Hs, ⟨⟨Hd, Hsl⟩, Hll, Hil, Hzl, Hzr, Ho⟩⟩ Hk
  iapply (wp_send m K t n hn (sl.map .tr)) $$ [Hs Hd Ho]
  · isplitr; · iexact HC
    isplitl [Hs]; · iexact Hs
    isplitl [Hd]; · iexact Hd
    iexact Ho
  iintro ⟨Hl, Ho⟩
  iapply Hk
  isplitl [Hsl]; · iexact Hsl
  isplitl [Hl Hll]
  · isplitl [Hl]; · iexact Hl
    iexact Hll
  isplitl [Hil]; · iexact Hil
  isplitl [Hzl]; · iexact Hzl
  isplitl [Hzr]; · iexact Hzr
  iexact Ho

theorem lvl_pos (t : T) : 0 < t.lvl := by cases t <;> exact Nat.succ_pos _

theorem lvl_tr {sl : List T} {n : ℕ} (h : ∀ t ∈ sl, n < t.lvl) : ∀ x ∈ sl.map Ob.tr, n < x.lvl := by
  intro x hx; obtain ⟨t, ht, rfl⟩ := List.mem_map.mp hx; exact h t ht

theorem s_left {Q : PUnit.{1} → sProp 𝕄} {k : P F} (t : T) :
    iprop(ctx m K ∗ St m c sl (t :: ll) il zl zr)
      ⊢ iprop((St m c sl ll il (t :: zl) zr -∗ W c k Q) -∗ W c (stLeft c t k) Q) := by
  unfold St; simp only [stk_cons]
  iintro ⟨#HC, ⟨Hsl, ⟨Hl, Hll⟩, Hil, Hzl, Hzr, Ho⟩⟩ Hk
  iapply (wp_left m K t (sl.map .tr) (lvl_tr fun t _ => lvl_pos t)) $$ [Hl Ho]
  · isplitr; · iexact HC
    isplitl [Hl]; · iexact Hl
    iexact Ho
  iintro ⟨Hb, Ho⟩
  iapply Hk
  isplitl [Hsl]; · iexact Hsl
  isplitl [Hll]; · iexact Hll
  isplitl [Hil]; · iexact Hil
  isplitl [Hb Hzl]
  · isplitl [Hb]; · iexact Hb
    iexact Hzl
  isplitl [Hzr]; · iexact Hzr
  iexact Ho

theorem s_got {Q : PUnit.{1} → sProp 𝕄} {k : P F} (t : T) {sm : DmaSem sig} (hs : sm = t.rsem (t.to.symm c)) {s : Shape} {e : EltTy} {src dst : VM s e}
    (ha : dst.view.dmaCredit = t.amt) {h1 : src.view.WordExact} {h2 : dst.view.WordExact} (hl : ∀ x ∈ sl, t.lvl < x.lvl) :
    iprop(ctx m K ∗ St m c sl ll (t :: il) zl zr)
      ⊢ iprop(((rcvPay m c t ∗ (kept m c t -∗ St m c sl ll il zl (t :: zr))) -∗ W c k Q)
        -∗ W c (.op (.waitDma2 sm src dst h1 h2) fun _ => k) Q) := by
  unfold St; simp only [stk_cons]
  iintro ⟨#HC, ⟨Hsl, Hll, ⟨Hi, Hil⟩, Hzl, Hzr, Ho⟩⟩ Hk
  iapply (wp_got m K t hs ha (sl.map .tr) (lvl_tr hl)) $$ [Hi Ho]
  · isplitr; · iexact HC
    isplitl [Hi]; · iexact Hi
    iexact Ho
  iintro ⟨Hz, Hp, Ho⟩
  iapply Hk
  isplitl [Hp]; · iexact Hp
  iintro Hp
  isplitl [Hsl]; · iexact Hsl
  isplitl [Hll]; · iexact Hll
  isplitl [Hil]; · iexact Hil
  isplitl [Hzl]; · iexact Hzl
  isplitl [Hz Hp Hzr]
  · isplitl [Hz Hp]
    · unfold done
      isplitl [Hz]; · iexact Hz
      iexact Hp
    iexact Hzr
  iexact Ho

theorem s_row {Q : PUnit.{1} → sProp 𝕄} {k : P F} (o : Fin 7) :
    iprop(ctx m K ∗ St m c [] ll (.am (Fin.rev o) :: il) zl zr)
      ⊢ iprop((St m c [] ll il zl (.am (Fin.rev o) :: zr) -∗ W c k Q) -∗ W c (stRow c o k) Q) := by
  iintro H Hk
  iapply (s_got m K (.am (Fin.rev o)) (row_sem c o) (by rfl) (fun _ h => absurd h List.not_mem_nil)) $$ H
  iintro ⟨Hp, Hs⟩
  iapply Hk
  iapply Hs
  iapply (kept_am m c (Fin.rev o)); iexact Hp

/-! ## Sums -/

theorem s_add {Q : PUnit.{1} → sProp 𝕄} {k : P F} {n : ℕ} (g : G) (j : Fin 4) (B : VM (big n g) .bf16) (i : Fin n) (X Y : Vec F (blk g) .bf16) :
    iprop(own' c (slab (accM g) j) fullShare X ∗ own' c (slab B i) fullShare Y)
      ⊢ iprop(((own' c (slab (accM g) j) fullShare (addV g X Y) ∗ own' c (slab B i) fullShare Y) -∗ W c k Q) -∗ W c (stAdd g j B i k) Q) := by
  unfold stAdd
  iintro ⟨Ha, Hb⟩ Hk
  iapply (ld (M := accM g) (r := rowR 4 g j) (fun _ => rfl) fullShare X) $$ Ha; iintro Ha
  iapply (ld (M := B) (r := rowR n g i) (fun _ => rfl) fullShare Y) $$ Hb; iintro Hb
  iapply (ld (M := accM g) (r := rowR 4 g j) (fun _ => rfl) fullShare X) $$ Ha; iintro Ha
  iapply (st (M := accM g) (r := rowR 4 g j) (fun _ => rfl) X) $$ Ha; iintro Ha
  iapply Hk
  isplitl [Ha]; · iexact Ha
  iexact Hb

theorem s_acc0 {Q : PUnit.{1} → sProp 𝕄} {k : P F} (g : G) (j : Fin 4) (hl : ∀ x ∈ sl, 2 < x.lvl) :
    iprop(ctx m K ∗ own' c (slab (accM g) j) fullShare (own0 m c g j) ∗ St m c sl ll (.s0 g j :: il) zl zr)
      ⊢ iprop(((own' c (slab (accM g) j) fullShare (acc1 m c g j) ∗ St m c sl ll il zl (.s0 g j :: zr)) -∗ W c k Q) -∗ W c (stAcc0 c g j k) Q) := by
  unfold stAcc0 stRecv
  iintro ⟨#HC, Ha, Hs⟩ Hk
  iapply (s_got m K (.s0 g j) (sm := (T.s0 g j).rsem c) rfl (dst_amt (.s0 g j) c) hl) $$ [Hs]
  · isplitr; · iexact HC
    iexact Hs
  iintro ⟨Hp, Hs⟩
  unfold rcvPay
  iapply (s_add g j (rc0M g) j (own0 m c g j) (snd0 m ((T.s0 g j).to.symm c) g j)) $$ [Ha Hp]
  · isplitl [Ha]; · iexact Ha
    iexact Hp
  iintro ⟨Ha, Hp⟩
  iapply Hk
  isplitl [Ha]; · iexact Ha
  iapply Hs
  iapply (kept_s0 m c g j); iexact Hp

theorem s_acc1 {Q : PUnit.{1} → sProp 𝕄} {k : P F} (g : G) (i : Fin 2) (j : Fin 4) (X : Vec F (blk g) .bf16) (hl : ∀ x ∈ sl, 3 < x.lvl) :
    iprop(ctx m K ∗ own' c (slab (accM g) j) fullShare X ∗ St m c sl ll (.s1 g i :: il) zl zr)
      ⊢ iprop(((own' c (slab (accM g) j) fullShare (addV g X (acc1 m ((T.s1 g i).to.symm c) g (odd2 i))) ∗ St m c sl ll il zl (.s1 g i :: zr)) -∗ W c k Q)
        -∗ W c (stAcc1 c g i j k) Q) := by
  unfold stAcc1 stRecv
  iintro ⟨#HC, Ha, Hs⟩ Hk
  iapply (s_got m K (.s1 g i) (sm := (T.s1 g i).rsem c) rfl (dst_amt (.s1 g i) c) hl) $$ [Hs]
  · isplitr; · iexact HC
    iexact Hs
  iintro ⟨Hp, Hs⟩
  unfold rcvPay
  iapply (s_add g j (rc1M g) i X (acc1 m ((T.s1 g i).to.symm c) g (odd2 i))) $$ [Ha Hp]
  · isplitl [Ha]; · iexact Ha
    iexact Hp
  iintro ⟨Ha, Hp⟩
  iapply Hk
  isplitl [Ha]; · iexact Ha
  iapply Hs
  iapply (kept_s1 m c g i); iexact Hp

/-! ## Products -/

/-- The two copies the products read. -/
def ops (c : Dev nD) : sProp 𝕄 := iprop(own' c xM fullShare (xv m c) ∗ own' c wM fullShare (wv m c))

theorem s_prod {Q : PUnit.{1} → sProp 𝕄} {k : P F} {g : G} (M : VM (big 4 g) .bf16) (hM : M.IsWhole) (j : Fin 4) (r : Fin 8) :
    iprop(ops m c ∗ ownE F c (slab M j))
      ⊢ iprop(((ops m c ∗ own' c (slab M j) fullShare (blkV m c g r)) -∗ W c k Q) -∗ W c (stProd M hM j c r k) Q) := by
  unfold stProd ops ownE
  iintro ⟨⟨Hx, Hw⟩, %X, H⟩ Hk
  iapply (ldw (M := xM) (r := xR c r) fullShare (xv m c)) $$ Hx; iintro Hx
  iapply (ldw (M := wM) (r := colR g) fullShare (wv m c)) $$ Hw; iintro Hw
  iapply (ld (M := M) (r := rowR 4 g j) (fun _ => rfl) fullShare X) $$ H; iintro H
  iapply (st (M := M) (r := rowR 4 g j) (fun _ => rfl) X) $$ H; iintro H
  iapply Hk
  isplitr [H]
  · isplitl [Hx]; · iexact Hx
    iexact Hw
  iexact H

def sndE (F : FTy → Type) (c : Dev nD) (x : G × Fin 4) : sProp (MT nD τ sig Unit (Elt F) ℕ UU ℕ) := ownE F c (slab (sndM x.1) x.2)
def accE (F : FTy → Type) (c : Dev nD) (x : G × Fin 4) : sProp (MT nD τ sig Unit (Elt F) ℕ UU ℕ) := ownE F c (slab (accM x.1) x.2)
def accO (c : Dev nD) (x : G × Fin 4) : sProp 𝕄 := own' c (slab (accM x.1) x.2) fullShare (own0 m c x.1 x.2)

variable {xs ys : List (G × Fin 4)}

theorem s_blk {Q : PUnit.{1} → sProp 𝕄} {k : P F} (g : G) (j : Fin 4) (r : Fin 8) (hr : r = rS g j) (n : Dev nD) (hn : n = xr (cur g) c) :
    iprop(ctx m K ∗ ops m c ∗ stk (sndE F c) ((g, j) :: xs) ∗ St m c (.s0 g j :: sl) ll il zl zr)
      ⊢ iprop(((ops m c ∗ stk (sndE F c) xs ∗ St m c sl (.s0 g j :: ll) il zl zr) -∗ W c k Q) -∗ W c (stBlk c g j r n k) Q) := by
  subst hr
  unfold stBlk; simp only [stk_cons]
  iintro ⟨#HC, Ho, ⟨Hs, Hxs⟩, HS⟩ Hk
  unfold sndE
  iapply (s_prod m (sndM g) (sndM_whole g) j (rS g j)) $$ [Ho Hs]
  · isplitl [Ho]; · iexact Ho
    iexact Hs
  iintro ⟨Ho, Hs⟩
  iapply (s_send m K (.s0 g j) n hn) $$ [Hs HS]
  · isplitr; · iexact HC
    isplitl [Hs]; · iexact Hs
    iexact HS
  iintro HS
  iapply Hk
  isplitl [Ho]; · iexact Ho
  isplitl [Hxs]; · iexact Hxs
  iexact HS

theorem s_own {Q : PUnit.{1} → sProp 𝕄} {k : P F} (g : G) (j : Fin 4) (r : Fin 8) (hr : r = rO g j) :
    iprop(ops m c ∗ stk (accE F c) ((g, j) :: xs) ∗ stk (accO m c) ys)
      ⊢ iprop(((ops m c ∗ stk (accE F c) xs ∗ stk (accO m c) ((g, j) :: ys)) -∗ W c k Q) -∗ W c (stOwn c g j r k) Q) := by
  subst hr
  unfold stOwn; simp only [stk_cons]
  iintro ⟨Ho, ⟨Hs, Hxs⟩, Hys⟩ Hk
  unfold accE
  iapply (s_prod m (accM g) (accM_whole g) j (rO g j)) $$ [Ho Hs]
  · isplitl [Ho]; · iexact Ho
    iexact Hs
  iintro ⟨Ho, Hs⟩
  iapply Hk
  isplitl [Ho]; · iexact Ho
  isplitl [Hxs]; · iexact Hxs
  isplitl [Hs]; · unfold accO; iexact Hs
  iexact Hys

/-! ## The stages of a group -/

theorem s_odd {Q : PUnit.{1} → sProp 𝕄} {k : P F} (g : G) (n n' : Dev nD) (hn : n = xr (mid g) c) (hn' : n' = xr (mid g) c)
    (hl : ∀ x ∈ sl, 2 < x.lvl) :
    iprop(ctx m K ∗ accO m c (g, 1) ∗ accO m c (g, 3) ∗ St m c (.s1 g 1 :: .s1 g 0 :: sl) ll (.s0 g 1 :: .s0 g 3 :: il) zl zr)
      ⊢ iprop((St m c sl (.s1 g 0 :: .s1 g 1 :: ll) il zl (.s0 g 3 :: .s0 g 1 :: zr) -∗ W c k Q) -∗ W c (stOdd c g n n' k) Q) := by
  unfold stOdd accO
  have hl' : ∀ x ∈ (T.s1 g 1 :: T.s1 g 0 :: sl), 2 < x.lvl := by
    intro x hx
    rcases List.mem_cons.mp hx with rfl | hx
    · show 2 < 3; decide
    · rcases List.mem_cons.mp hx with rfl | hx
      · show 2 < 3; decide
      · exact hl x hx
  iintro ⟨#HC, Ha, Hb, HS⟩ Hk
  iapply (s_acc0 m K g 1 hl') $$ [Ha HS]
  · isplitr; · iexact HC
    isplitl [Ha]; · iexact Ha
    iexact HS
  iintro ⟨Ha, HS⟩
  iapply (s_acc0 m K g 3 hl') $$ [Hb HS]
  · isplitr; · iexact HC
    isplitl [Hb]; · iexact Hb
    iexact HS
  iintro ⟨Hb, HS⟩
  iapply (s_send m K (.s1 g 1) n hn) $$ [Hb HS]
  · isplitr; · iexact HC
    isplitl [Hb]; · iexact Hb
    iexact HS
  iintro HS
  iapply (s_send m K (.s1 g 0) n' hn') $$ [Ha HS]
  · isplitr; · iexact HC
    isplitl [Ha]; · iexact Ha
    iexact HS
  iexact Hk

theorem s_mid {Q : PUnit.{1} → sProp 𝕄} {k : P F} (g : G) (n : Dev nD) (hn : n = xr (lst g) c) (hl : ∀ x ∈ sl, 3 < x.lvl) :
    iprop(ctx m K ∗ own' c (slab (accM g) 2) fullShare (acc1 m c g 2) ∗ St m c (.s2 g :: sl) ll (.s1 g 1 :: il) zl zr)
      ⊢ iprop((St m c sl (.s2 g :: ll) il zl (.s1 g 1 :: zr) -∗ W c k Q) -∗ W c (stMid c g n k) Q) := by
  unfold stMid
  have hl' : ∀ x ∈ (T.s2 g :: sl), 3 < x.lvl := by
    intro x hx
    rcases List.mem_cons.mp hx with rfl | hx
    · show 3 < 4; decide
    · exact hl x hx
  iintro ⟨#HC, Ha, HS⟩ Hk
  iapply (s_acc1 m K g 1 2 (acc1 m c g 2) hl') $$ [Ha HS]
  · isplitr; · iexact HC
    isplitl [Ha]; · iexact Ha
    iexact HS
  iintro ⟨Ha, HS⟩
  iapply (s_send m K (.s2 g) n hn) $$ [Ha HS]
  · isplitr; · iexact HC
    isplitl [Ha]; · iexact Ha
    iexact HS
  iexact Hk

theorem s_low {Q : PUnit.{1} → sProp 𝕄} {k : P F} (g : G) (hl : ∀ x ∈ sl, 3 < x.lvl) :
    iprop(ctx m K ∗ accO m c (g, 0) ∗ St m c sl ll (.s0 g 0 :: .s1 g 0 :: il) zl zr)
      ⊢ iprop(((own' c (slab (accM g) 0) fullShare (low m c g) ∗ St m c sl ll il zl (.s1 g 0 :: .s0 g 0 :: zr)) -∗ W c k Q) -∗ W c (stLow c g k) Q) := by
  unfold stLow accO
  iintro ⟨#HC, Ha, HS⟩ Hk
  iapply (s_acc0 m K g 0 (fun x hx => Nat.lt_of_succ_lt (hl x hx))) $$ [Ha HS]
  · isplitr; · iexact HC
    isplitl [Ha]; · iexact Ha
    iexact HS
  iintro ⟨Ha, HS⟩
  iapply (s_acc1 m K g 0 0 (acc1 m c g 0) hl) $$ [Ha HS]
  · isplitr; · iexact HC
    isplitl [Ha]; · iexact Ha
    iexact HS
  iexact Hk

theorem whR_emb (g : G) (i : (whR g).shape.Idx) : (whR g).emb i = i := by cases g <;> exact unit_full_emb _ i

theorem s_end {Q : PUnit.{1} → sProp 𝕄} {k : P F} (g : G) (hl : ∀ x ∈ sl, 4 < x.lvl) :
    iprop(ctx m K ∗ own' c (slab (accM g) 0) fullShare (low m c g) ∗ ownE F c (col g) ∗ St m c sl ll (.s2 g :: il) zl zr)
      ⊢ iprop(((own' c (slab (accM g) 0) fullShare (low m c g) ∗ own' c (col g) fullShare (outC m c g) ∗ St m c sl ll il zl (.s2 g :: zr)) -∗ W c k Q)
        -∗ W c (stEnd c g k) Q) := by
  unfold stEnd stRecv stOut ownE
  iintro ⟨#HC, Ha, ⟨%Y, Hy⟩, HS⟩ Hk
  iapply (s_got m K (.s2 g) (sm := (T.s2 g).rsem c) rfl (dst_amt (.s2 g) c) hl) $$ [HS]
  · isplitr; · iexact HC
    iexact HS
  iintro ⟨Hp, HS⟩
  ihave Hp := (got_s2 m c g) $$ Hp
  iapply (ld (M := accM g) (r := rowR 4 g 0) (fun _ => rfl) fullShare (low m c g)) $$ Ha; iintro Ha
  iapply (ldw (M := rc2M g) (r := whR g) fullShare (acc2 m ((T.s2 g).to.symm c) g)) $$ Hp; iintro Hp
  iapply (ld (M := outM) (r := colR g) (fun _ => rfl) fullShare Y) $$ Hy; iintro Hy
  iapply (st (M := outM) (r := colR g) (fun _ => rfl) Y) $$ Hy; iintro Hy
  iapply Hk
  isplitl [Ha]; · iexact Ha
  isplitl [Hy]
  · rw [show outC m c g = outV g (low m c g) (fun i => acc2 m ((T.s2 g).to.symm c) g ((whR g).emb i)) from
      congrArg (outV g (low m c g)) (funext fun i => congrArg (acc2 m ((T.s2 g).to.symm c) g) (whR_emb g i).symm)]
    iexact Hy
  iapply HS
  iapply (kept_s2 m c g); iexact Hp

theorem s_gone {Q : PUnit.{1} → sProp 𝕄} {k : P F} (g : G) :
    iprop(ctx m K ∗ St m c sl (.s0 g 0 :: .s0 g 1 :: .s0 g 2 :: .s0 g 3 :: .s1 g 0 :: .s1 g 1 :: .s2 g :: ll) il zl zr)
      ⊢ iprop((St m c sl ll il (.s2 g :: .s1 g 1 :: .s1 g 0 :: .s0 g 3 :: .s0 g 2 :: .s0 g 1 :: .s0 g 0 :: zl) zr -∗ W c k Q) -∗ W c (stGone c g k) Q) := by
  unfold stGone
  iintro ⟨#HC, HS⟩ Hk
  iapply (s_left m K (.s0 g 0)) $$ [HS]
  · isplitr <;> iassumption
  iintro HS
  iapply (s_left m K (.s0 g 1)) $$ [HS]
  · isplitr <;> iassumption
  iintro HS
  iapply (s_left m K (.s0 g 2)) $$ [HS]
  · isplitr <;> iassumption
  iintro HS
  iapply (s_left m K (.s0 g 3)) $$ [HS]
  · isplitr <;> iassumption
  iintro HS
  iapply (s_left m K (.s1 g 0)) $$ [HS]
  · isplitr <;> iassumption
  iintro HS
  iapply (s_left m K (.s1 g 1)) $$ [HS]
  · isplitr <;> iassumption
  iintro HS
  iapply (s_left m K (.s2 g)) $$ [HS]
  · isplitr <;> iassumption
  iexact Hk

end Moves

end Cert.KernelIdeal.Rsc

end
-- ==== Proof.Body.lean ====
/- The body run from start to end on one device. -/
module

public import proofs.«01_k».proof.Proof.Moves

@[expose] public section

set_option maxRecDepth 16384

noncomputable section

namespace Cert.KernelIdeal.Rsc

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A device's cells: those it sends on, those it receives on, and the rest -/

def freeIx (c : Dev nD) : Finset (Fin 64) := Finset.univ.filter fun i => (∀ t, six t ≠ i) ∧ ∀ t : T, rix (t.to.symm c) t ≠ i

theorem six_inj : Function.Injective six := fun t t' h => ssem_inj (by
  have h1 := osem_six t; have h2 := osem_six t'; rw [h, h2] at h1; injection h1 with h1; exact h1.symm)
theorem rix_inj (c : Dev nD) : Function.Injective fun t : T => rix (t.to.symm c) t := fun t t' h => rsem_inj (c := c) (by
  have h' : rix (t.to.symm c) t = rix (t'.to.symm c) t' := h
  have h1 := osem_rix (t.to.symm c) t; have h2 := osem_rix (t'.to.symm c) t'; rw [h', h2] at h1; injection h1 with h1; exact h1.symm)
theorem six_ne_rix (c : Dev nD) (t t' : T) : six t ≠ rix c t' := fun h => ssem_ne_rsem c t t' (by
  have h1 := osem_six t; have h2 := osem_rix c t'; rw [h, h2] at h1; injection h1 with h1; exact h1.symm)

theorem univ_cells (c : Dev nD) : (Finset.univ : Finset (Fin 64))
    = Finset.univ.image six ∪ (Finset.univ.image (fun t : T => rix (t.to.symm c) t) ∪ freeIx c) := by
  refine (Finset.eq_univ_iff_forall.mpr fun i => ?_).symm
  by_cases h : ∃ t, six t = i
  · obtain ⟨t, rfl⟩ := h
    exact Finset.mem_union_left _ (Finset.mem_image_of_mem _ (Finset.mem_univ t))
  · refine Finset.mem_union_right _ ?_
    by_cases h' : ∃ t : T, rix (t.to.symm c) t = i
    · obtain ⟨t, ht⟩ := h'
      exact Finset.mem_union_left _ (Finset.mem_image.mpr ⟨t, Finset.mem_univ t, ht⟩)
    · exact Finset.mem_union_right _ (Finset.mem_filter.mpr ⟨Finset.mem_univ _, fun t ht => h ⟨t, ht⟩, fun t ht => h' ⟨t, ht⟩⟩)

theorem cells_split (c : Dev nD) (Φ : SemLoc sig → sProp 𝕄) :
    (bigSep Finset.univ fun i : Fin 64 => Φ (osem i))
      = iprop((bigSep Finset.univ fun t : T => Φ (.dma t.ssem)) ∗ (bigSep Finset.univ fun t : T => Φ (.dma (t.rsem (t.to.symm c))))
          ∗ bigSep (freeIx c) fun i => Φ (osem i)) := by
  have hd1 : Disjoint (Finset.univ.image (fun t : T => rix (t.to.symm c) t)) (freeIx c) := by
    rw [Finset.disjoint_left]
    intro i hi hf
    obtain ⟨t, -, rfl⟩ := Finset.mem_image.mp hi
    exact (Finset.mem_filter.mp hf).2.2 t rfl
  have hd2 : Disjoint (Finset.univ.image six) (Finset.univ.image (fun t : T => rix (t.to.symm c) t) ∪ freeIx c) := by
    rw [Finset.disjoint_left]
    intro i hi hf
    obtain ⟨t, -, rfl⟩ := Finset.mem_image.mp hi
    rcases Finset.mem_union.mp hf with hf | hf
    · obtain ⟨t', -, e⟩ := Finset.mem_image.mp hf
      exact six_ne_rix _ t t' e.symm
    · exact (Finset.mem_filter.mp hf).2.1 t rfl
  rw [univ_cells c, bigSep_union hd2, bigSep_union hd1, bigSep_image_of_injOn (fun a _ b _ h => six_inj h),
    bigSep_image_of_injOn (fun a _ b _ h => rix_inj c h)]
  simp only [osem_six, osem_rix]
  rfl

section Body
variable (m : (ℓ : Loc nD τ sig) → Buf (Elt F) ℓ) (K : Dev nD × Option (Fin 64) → ℕ) [∀ e, Nonempty (Elt F e)]

theorem free_duties (c : Dev nD) (i : Fin 64) (hi : i ∈ freeIx c) (r : ℕ) (hr : 0 ≤ r) :
    (Rd (F := F) m).duties ((c : Thread nD τ), osem i) r = ∅ := by
  by_cases h0 : r = 0
  · subst h0
    refine Finset.eq_empty_iff_forall_notMem.mpr fun d hd => ?_
    rw [mem_duties] at hd
    have hf := (Finset.mem_filter.mp hi).2
    cases d with
    | bar p => exact dsem_bar_dma c p _ hd
    | snd t =>
      have hd' : SemLoc.dma t.ssem = osem i := Option.some.inj hd
      refine hf.1 t ?_
      rw [← osem_six t] at hd'
      injection hd' with hd'
      have := congrArg Fin.val hd'
      exact Fin.ext (Nat.add_left_cancel this)
    | rcv t =>
      have hd' : SemLoc.dma (t.rsem (t.to.symm c)) = osem i := Option.some.inj hd
      refine hf.2 t ?_
      rw [← osem_rix (t.to.symm c) t] at hd'
      injection hd' with hd'
      have := congrArg Fin.val hd'
      exact Fin.ext (Nat.add_left_cancel this)
  · exact duties_later m _ r (by omega)

/-- The positions at the cells nobody uses. -/
def idle (F : FTy → Type) (c : Dev nD) : sProp (MT nD τ sig Unit (Elt F) ℕ UU ℕ) :=
  bigSep (freeIx c) fun i => atPos ER ((c : Thread nD τ), osem i) 0 ∅ 0

theorem idle_close (c : Dev nD) :
    iprop(ctx m K ∗ idle F c) ⊢ iprop(|={Set.univ}=> (bigSep (freeIx c) fun i => semVal ((c : Thread nD τ), osem i) 0 : sProp 𝕄)) := by
  unfold idle
  have h : iprop(ctx m K ∗ bigSep (freeIx c) fun i => atPos ER ((c : Thread nD τ), osem i) 0 ∅ 0)
      ⊢ (bigSep (freeIx c) fun i => iprop(|={Set.univ}=> semVal ((c : Thread nD τ), osem i) 0) : sProp 𝕄) := by
    refine bigSep_with_persistent fun i hi => ?_
    iintro ⟨HC, Ha⟩
    ihave HI := (ctx_cell m K (c, some i)) $$ HC
    icases HI with ⟨HI, -⟩
    iapply (Rounds.cell_close ER (Rd m) (Set.mem_univ (K (c, some i))) (fun h => h) (R := 0) (free_duties m c i hi))
    isplitl [HI]; · iexact HI
    iexact Ha
  exact h.trans (bigSep_fupd _ _)

/-! ## The places that others write -/

theorem erase_rot (c : Dev nD) : Finset.univ.erase c = Finset.univ.image (fun o : Fin 7 => rot o c) := by revert c; decide
theorem erase_unrot (c : Dev nD) : Finset.univ.erase c = Finset.univ.image (fun o : Fin 7 => unrot o c) := by revert c; decide
theorem rot_injOn (c : Dev nD) : Function.Injective (fun o : Fin 7 => rot o c) := fun o o' h => rot_inj c o o' h
theorem unrot_injOn (c : Dev nD) : Function.Injective (fun o : Fin 7 => unrot o c) := by revert c; decide

omit [∀ e, Nonempty (Elt F e)] in
theorem bars_eq (c : Dev nD) : (bigSep Finset.univ fun o : Fin 7 => barPay F c (rot o c)) = bigSep Finset.univ (slot F c) := by
  refine (bigSep_image_of_injOn (s := Finset.univ) (f := fun o : Fin 7 => rot o c) (Φ := fun p => barPay F c p) (fun a _ b _ h => rot_injOn c h)).symm.trans ?_
  rw [← erase_rot]
  unfold barPay
  rw [swap_over]
  refine bigSep_congr fun t _ => ?_
  refine (Eq.trans (bigSep_filter (Finset.univ.erase c) (fun p => t.to p = c) (fun p => dstRes F p t)).symm ?_)
  rw [show (Finset.univ.erase c).filter (fun p => t.to p = c) = {t.to.symm c} from ?_, bigSep_singleton]
  · unfold dstRes slot
    rw [Equiv.apply_symm_apply]
  · ext p
    rw [Finset.mem_filter, Finset.mem_erase, Finset.mem_singleton]
    constructor
    · rintro ⟨-, rfl⟩; exact (Equiv.symm_apply_apply _ _).symm
    · rintro rfl
      refine ⟨⟨fun h => T.to_ne t c ?_, Finset.mem_univ _⟩, Equiv.apply_symm_apply _ _⟩
      have := congrArg t.to h
      rw [Equiv.apply_symm_apply] at this
      exact this.symm

/-- A family over the transfers, kind by kind. -/
theorem bigSep_T (Φ : T → sProp 𝕄) : bigSep Finset.univ Φ
    = iprop(((bigSep Finset.univ fun g => bigSep Finset.univ fun j => Φ (.s0 g j)) ∗ (bigSep Finset.univ fun g => bigSep Finset.univ fun j => Φ (.s1 g j)))
        ∗ (bigSep Finset.univ fun g => Φ (.s2 g)) ∗ bigSep Finset.univ fun o => Φ (.am o)) := by
  rw [bigSep_univ_equiv T.equiv Φ, bigSep_univ_sum, bigSep_univ_sum, bigSep_univ_sum, bigSep_univ_prod, bigSep_univ_prod]
  rfl

/-! ## Before the barrier -/

variable {c : Dev nD}

theorem q_zero {Q : PUnit.{1} → sProp 𝕄} {k : P F} : ownE F c arM ⊢ iprop((own' c arM fullShare (k0_pay2 (F := F)) -∗ W c k Q) -∗ W c (stZero k) Q) := by
  unfold stZero ownE
  iintro ⟨%X, H⟩ Hk
  iapply (ldf (M := arM) fullShare X) $$ H; iintro H
  iapply (stf (M := arM) X) $$ H; iexact Hk

def sigR (F : FTy → Type) (c : Dev nD) (o : Fin 7) : sProp (MT nD τ sig Unit (Elt F) ℕ UU ℕ) :=
  iprop(dutyTok ER (barCell (rot o c)) 0 (.bar c) ∗ barPay F c (rot o c))

theorem s_sig {Q : PUnit.{1} → sProp 𝕄} {k : P F} (o : Fin 7) (n : Dev nD) (hn : n = rot o c) {os : List (Fin 7)} {l : List Ob} :
    iprop(ctx m K ∗ stk (sigR F c) (o :: os) ∗ ow F c (.sg o :: l)) ⊢ iprop(((stk (sigR F c) os ∗ ow F c l) -∗ W c k Q) -∗ W c (stSig n k) Q) := by
  simp only [stk_cons]; unfold sigR
  iintro ⟨#HC, ⟨⟨Ht, Hp⟩, Hs⟩, Ho⟩ Hk
  iapply (wp_sig m K o n hn l) $$ [Ht Hp Ho]
  · isplitr; · iexact HC
    isplitl [Ht]; · iexact Ht
    isplitl [Hp]; · iexact Hp
    iexact Ho
  iintro Ho
  iapply Hk
  isplitl [Hs]; · iexact Hs
  iexact Ho

theorem q_sig {Q : PUnit.{1} → sProp 𝕄} {k : P F} : iprop(ctx m K ∗ stk (sigR F c) sigs ∗ ow F c obs) ⊢ iprop((ow F c (sends.map .tr) -∗ W c k Q) -∗ W c (seqSig c k) Q) := by
  obtain ⟨h0, h1, h2, h3, h4, h5, h6⟩ := sig_dev c
  rw [show obs = .sg 0 :: .sg 1 :: .sg 2 :: .sg 3 :: .sg 4 :: .sg 5 :: .sg 6 :: sends.map .tr from rfl]
  unfold seqSig
  iintro ⟨#HC, Hs, Ho⟩ Hk
  iapply (s_sig m K 0 _ h0) $$ [Hs Ho]
  · isplitr; · iexact HC
    isplitl [Hs] <;> iassumption
  iintro ⟨Hs, Ho⟩
  iapply (s_sig m K 1 _ h1) $$ [Hs Ho]
  · isplitr; · iexact HC
    isplitl [Hs] <;> iassumption
  iintro ⟨Hs, Ho⟩
  iapply (s_sig m K 2 _ h2) $$ [Hs Ho]
  · isplitr; · iexact HC
    isplitl [Hs] <;> iassumption
  iintro ⟨Hs, Ho⟩
  iapply (s_sig m K 3 _ h3) $$ [Hs Ho]
  · isplitr; · iexact HC
    isplitl [Hs] <;> iassumption
  iintro ⟨Hs, Ho⟩
  iapply (s_sig m K 4 _ h4) $$ [Hs Ho]
  · isplitr; · iexact HC
    isplitl [Hs] <;> iassumption
  iintro ⟨Hs, Ho⟩
  iapply (s_sig m K 5 _ h5) $$ [Hs Ho]
  · isplitr; · iexact HC
    isplitl [Hs] <;> iassumption
  iintro ⟨Hs, Ho⟩
  iapply (s_sig m K 6 _ h6) $$ [Hs Ho]
  · isplitr; · iexact HC
    isplitl [Hs] <;> iassumption
  iintro ⟨-, Ho⟩
  iapply Hk; iexact Ho

/-- What a device holds of a transfer it is to make, before it knows the receiver is ready. -/
def tok (F : FTy → Type) (c : Dev nD) (t : T) : sProp (MT nD τ sig Unit (Elt F) ℕ UU ℕ) :=
  iprop(dutyTok ER (sndCell c t) 0 (.snd t) ∗ dutyTok ER (dstCell c t) 0 (.rcv t) ∗ atPos ER (sndCell c t) 0 ∅ 0)

omit [∀ e, Nonempty (Elt F e)] in
theorem due_intro : iprop(bigSep Finset.univ (tok F c) ∗ bigSep Finset.univ (dstRes F c)) ⊢ stk (due F c) sends := by
  rw [← stk_univ (due F c) sends sends_univ sends_nodup, ← bigSep_sep']
  refine bigSep_mono fun t _ => ?_
  show iprop(tok F c t ∗ dstRes F c t) ⊢ due F c t
  unfold tok due
  iintro ⟨⟨Ha, Hb, Hc⟩, Hd⟩
  isplitl [Ha]; · iexact Ha
  isplitl [Hb]; · iexact Hb
  isplitl [Hc]; · iexact Hc
  iexact Hd

/-! ## The two operands and the products -/

theorem q_cast {Q : PUnit.{1} → sProp 𝕄} {k : P F} : iprop(own' c inX fullShare (xstg m c) ∗ own' c inW fullShare (wstg m c) ∗ ownE F c xM ∗ ownE F c wM)
    ⊢ iprop(((own' c inX fullShare (xstg m c) ∗ own' c inW fullShare (wstg m c) ∗ ops m c) -∗ W c k Q) -∗ W c (stCast k) Q) := by
  unfold stCast ownE ops
  iintro ⟨Hx, Hw, ⟨%X, Hxm⟩, ⟨%Y, Hwm⟩⟩ Hk
  iapply (ldf (M := inX) fullShare (xstg m c)) $$ Hx; iintro Hx
  iapply (ldf (M := xM) fullShare X) $$ Hxm; iintro Hxm
  iapply (stf (M := xM) X) $$ Hxm; iintro Hxm
  iapply (ldf (M := inW) fullShare (wstg m c)) $$ Hw; iintro Hw
  iapply (ldf (M := wM) fullShare Y) $$ Hwm; iintro Hwm
  iapply (stf (M := wM) Y) $$ Hwm; iintro Hwm
  iapply Hk
  isplitl [Hx]; · iexact Hx
  isplitl [Hw]; · iexact Hw
  isplitl [Hxm]; · iexact Hxm
  iexact Hwm

/-- The blocks in the order they are made. -/
@[reducible] def blks : List (G × Fin 4) :=
  [(.a, 1), (.b, 1), (.c, 1), (.a, 3), (.b, 3), (.c, 3), (.a, 2), (.b, 2), (.c, 2), (.a, 0), (.b, 0), (.c, 0)]

theorem blks_univ : (Finset.univ : Finset (G × Fin 4)) = blks.toFinset := by decide +kernel
theorem blks_nodup : blks.Nodup := by decide +kernel

omit [∀ e, Nonempty (Elt F e)] in
theorem stk_blks (Φ : G × Fin 4 → sProp 𝕄) : (bigSep Finset.univ fun g => bigSep Finset.univ fun j => Φ (g, j)) = stk Φ blks := by
  rw [← stk_univ Φ blks blks_univ blks_nodup, bigSep_univ_prod]

variable {il zl zr : List T}

/-- The transfers still to start after the first stage's. -/
@[reducible] def sends1 : List T :=
  [.s1 .a 1, .s1 .a 0, .s1 .b 1, .s1 .b 0, .s1 .c 1, .s1 .c 0, .s2 .a, .s2 .b, .s2 .c, .am 0, .am 1, .am 2, .am 3, .am 4, .am 5, .am 6]
@[reducible] def gone0 : List T :=
  [.s0 .c 0, .s0 .b 0, .s0 .a 0, .s0 .c 2, .s0 .b 2, .s0 .a 2, .s0 .c 3, .s0 .b 3, .s0 .a 3, .s0 .c 1, .s0 .b 1, .s0 .a 1]

theorem q_blk {Q : PUnit.{1} → sProp 𝕄} {k : P F} : iprop(ctx m K ∗ ops m c ∗ stk (sndE F c) blks ∗ St m c sends [] il zl zr)
    ⊢ iprop(((ops m c ∗ St m c sends1 gone0 il zl zr) -∗ W c k Q) -∗ W c (seqBlk c k) Q) := by
  obtain ⟨h0, h1, h2, h3, h4, h5, h6, h7, h8, h9, h10, h11⟩ := blk_dev c
  unfold seqBlk
  iintro ⟨#HC, Ho, Hs, HS⟩ Hk
  iapply (s_blk m K .a 1 2 rfl _ h0) $$ [Ho Hs HS]
  · isplitr; · iexact HC
    isplitl [Ho]; · iexact Ho
    isplitl [Hs] <;> iassumption
  iintro ⟨Ho, Hs, HS⟩
  iapply (s_blk m K .b 1 7 rfl _ h1) $$ [Ho Hs HS]
  · isplitr; · iexact HC
    isplitl [Ho]; · iexact Ho
    isplitl [Hs] <;> iassumption
  iintro ⟨Ho, Hs, HS⟩
  iapply (s_blk m K .c 1 5 rfl _ h2) $$ [Ho Hs HS]
  · isplitr; · iexact HC
    isplitl [Ho]; · iexact Ho
    isplitl [Hs] <;> iassumption
  iintro ⟨Ho, Hs, HS⟩
  iapply (s_blk m K .a 3 6 rfl _ h3) $$ [Ho Hs HS]
  · isplitr; · iexact HC
    isplitl [Ho]; · iexact Ho
    isplitl [Hs] <;> iassumption
  iintro ⟨Ho, Hs, HS⟩
  iapply (s_blk m K .b 3 6 rfl _ h4) $$ [Ho Hs HS]
  · isplitr; · iexact HC
    isplitl [Ho]; · iexact Ho
    isplitl [Hs] <;> iassumption
  iintro ⟨Ho, Hs, HS⟩
  iapply (s_blk m K .c 3 6 rfl _ h5) $$ [Ho Hs HS]
  · isplitr; · iexact HC
    isplitl [Ho]; · iexact Ho
    isplitl [Hs] <;> iassumption
  iintro ⟨Ho, Hs, HS⟩
  iapply (s_blk m K .a 2 5 rfl _ h6) $$ [Ho Hs HS]
  · isplitr; · iexact HC
    isplitl [Ho]; · iexact Ho
    isplitl [Hs] <;> iassumption
  iintro ⟨Ho, Hs, HS⟩
  iapply (s_blk m K .b 2 2 rfl _ h7) $$ [Ho Hs HS]
  · isplitr; · iexact HC
    isplitl [Ho]; · iexact Ho
    isplitl [Hs] <;> iassumption
  iintro ⟨Ho, Hs, HS⟩
  iapply (s_blk m K .c 2 7 rfl _ h8) $$ [Ho Hs HS]
  · isplitr; · iexact HC
    isplitl [Ho]; · iexact Ho
    isplitl [Hs] <;> iassumption
  iintro ⟨Ho, Hs, HS⟩
  iapply (s_blk m K .a 0 1 rfl _ h9) $$ [Ho Hs HS]
  · isplitr; · iexact HC
    isplitl [Ho]; · iexact Ho
    isplitl [Hs] <;> iassumption
  iintro ⟨Ho, Hs, HS⟩
  iapply (s_blk m K .b 0 3 rfl _ h10) $$ [Ho Hs HS]
  · isplitr; · iexact HC
    isplitl [Ho]; · iexact Ho
    isplitl [Hs] <;> iassumption
  iintro ⟨Ho, Hs, HS⟩
  iapply (s_blk m K .c 0 4 rfl _ h11) $$ [Ho Hs HS]
  · isplitr; · iexact HC
    isplitl [Ho]; · iexact Ho
    isplitl [Hs] <;> iassumption
  iintro ⟨Ho, Hs, HS⟩
  iapply Hk
  isplitl [Ho]; · iexact Ho
  iexact HS

theorem q_own {Q : PUnit.{1} → sProp 𝕄} {k : P F} : iprop(ops m c ∗ stk (accE F c) blks ∗ stk (accO m c) [])
    ⊢ iprop(((ops m c ∗ stk (accO m c) blks.reverse) -∗ W c k Q) -∗ W c (seqOwn c k) Q) := by
  unfold seqOwn
  iintro ⟨Ho, Hs, Hy⟩ Hk
  iapply (s_own m .a 1 3 rfl) $$ [Ho Hs Hy]
  · isplitl [Ho]; · iexact Ho
    isplitl [Hs] <;> iassumption
  iintro ⟨Ho, Hs, Hy⟩
  iapply (s_own m .b 1 4 rfl) $$ [Ho Hs Hy]
  · isplitl [Ho]; · iexact Ho
    isplitl [Hs] <;> iassumption
  iintro ⟨Ho, Hs, Hy⟩
  iapply (s_own m .c 1 1 rfl) $$ [Ho Hs Hy]
  · isplitl [Ho]; · iexact Ho
    isplitl [Hs] <;> iassumption
  iintro ⟨Ho, Hs, Hy⟩
  iapply (s_own m .a 3 7 rfl) $$ [Ho Hs Hy]
  · isplitl [Ho]; · iexact Ho
    isplitl [Hs] <;> iassumption
  iintro ⟨Ho, Hs, Hy⟩
  iapply (s_own m .b 3 5 rfl) $$ [Ho Hs Hy]
  · isplitl [Ho]; · iexact Ho
    isplitl [Hs] <;> iassumption
  iintro ⟨Ho, Hs, Hy⟩
  iapply (s_own m .c 3 2 rfl) $$ [Ho Hs Hy]
  · isplitl [Ho]; · iexact Ho
    isplitl [Hs] <;> iassumption
  iintro ⟨Ho, Hs, Hy⟩
  iapply (s_own m .a 2 4 rfl) $$ [Ho Hs Hy]
  · isplitl [Ho]; · iexact Ho
    isplitl [Hs] <;> iassumption
  iintro ⟨Ho, Hs, Hy⟩
  iapply (s_own m .b 2 1 rfl) $$ [Ho Hs Hy]
  · isplitl [Ho]; · iexact Ho
    isplitl [Hs] <;> iassumption
  iintro ⟨Ho, Hs, Hy⟩
  iapply (s_own m .c 2 3 rfl) $$ [Ho Hs Hy]
  · isplitl [Ho]; · iexact Ho
    isplitl [Hs] <;> iassumption
  iintro ⟨Ho, Hs, Hy⟩
  iapply (s_own m .a 0 0 rfl) $$ [Ho Hs Hy]
  · isplitl [Ho]; · iexact Ho
    isplitl [Hs] <;> iassumption
  iintro ⟨Ho, Hs, Hy⟩
  iapply (s_own m .b 0 0 rfl) $$ [Ho Hs Hy]
  · isplitl [Ho]; · iexact Ho
    isplitl [Hs] <;> iassumption
  iintro ⟨Ho, Hs, Hy⟩
  iapply (s_own m .c 0 0 rfl) $$ [Ho Hs Hy]
  · isplitl [Ho]; · iexact Ho
    isplitl [Hs] <;> iassumption
  iintro ⟨Ho, Hs, Hy⟩
  iapply Hk
  isplitl [Ho]; · iexact Ho
  iexact Hy

end Body

end Cert.KernelIdeal.Rsc

end
-- ==== Proof.Acc.lean ====
/- The accumulation, the exchange of the largest entries, and what a device ends with. -/
module

public import proofs.«01_k».proof.Proof.Body

@[expose] public section

set_option maxRecDepth 16384

noncomputable section

namespace Cert.KernelIdeal.Rsc

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The transfers in the orders they are met -/

/-- The last seven transfers. -/
@[reducible] def ams : List T :=
  [.am 0, .am 1, .am 2, .am 3, .am 4, .am 5, .am 6]
/-- The rows in the order they are waited for. -/
@[reducible] def amin : List T :=
  [.am 6, .am 5, .am 4, .am 3, .am 2, .am 1, .am 0]
/-- The slabs in the order they are waited for. -/
@[reducible] def arr : List T :=
  [.s0 .a 1, .s0 .a 3, .s0 .b 1, .s0 .b 3, .s0 .c 1, .s0 .c 3, .s0 .a 2, .s0 .b 2, .s0 .c 2, .s1 .a 1, .s1 .b 1, .s1 .c 1, .s0 .a 0, .s1 .a 0, .s0 .b 0, .s1 .b 0, .s0 .c 0, .s1 .c 0, .s2 .a, .s2 .b, .s2 .c]
/-- The transfers of the three stages, the last started first. -/
@[reducible] def gone1 : List T :=
  [.s2 .c, .s2 .b, .s2 .a, .s1 .c 0, .s1 .c 1, .s1 .b 0, .s1 .b 1, .s1 .a 0, .s1 .a 1, .s0 .c 0, .s0 .b 0, .s0 .a 0, .s0 .c 2, .s0 .b 2, .s0 .a 2, .s0 .c 3, .s0 .b 3, .s0 .a 3, .s0 .c 1, .s0 .b 1, .s0 .a 1]
/-- The same, group by group. -/
@[reducible] def goneP : List T :=
  [.s0 .a 0, .s0 .a 1, .s0 .a 2, .s0 .a 3, .s1 .a 0, .s1 .a 1, .s2 .a, .s0 .b 0, .s0 .b 1, .s0 .b 2, .s0 .b 3, .s1 .b 0, .s1 .b 1, .s2 .b, .s0 .c 0, .s0 .c 1, .s0 .c 2, .s0 .c 3, .s1 .c 0, .s1 .c 1, .s2 .c]

theorem gone_perm : gone1.toFinset = goneP.toFinset := by decide +kernel
theorem gone1_nodup : gone1.Nodup := by decide +kernel
theorem goneP_nodup : goneP.Nodup := by decide +kernel
theorem backs_univ : (Finset.univ : Finset T) = (ams.reverse ++ goneP.reverse).toFinset := by decide +kernel
theorem backs_nodup : (ams.reverse ++ goneP.reverse).Nodup := by decide +kernel
theorem ams_perm : ams.reverse.toFinset = ams.toFinset := by decide +kernel
theorem ams_nodup : ams.Nodup := by decide +kernel
theorem ams_nodup' : ams.reverse.Nodup := by decide +kernel
theorem arr_univ : (Finset.univ : Finset T) = (arr ++ amin).toFinset := by decide +kernel
theorem arr_nodup : (arr ++ amin).Nodup := by decide +kernel
theorem got_univ : (Finset.univ : Finset T) = (amin.reverse ++ arr.reverse).toFinset := by decide +kernel
theorem got_nodup : (amin.reverse ++ arr.reverse).Nodup := by decide +kernel

section Fin
variable (m : (ℓ : Loc nD τ sig) → Buf (Elt F) ℓ) (K : Dev nD × Option (Fin 64) → ℕ) [∀ e, Nonempty (Elt F e)]
variable {c : Dev nD} {sl ll il zl zr : List T}

omit [∀ e, Nonempty (Elt F e)] in
theorem St_perm {ll' : List T} (h : ll.Nodup) (h' : ll'.Nodup) (e : ll.toFinset = ll'.toFinset) : St m c sl ll il zl zr ⊢ St m c sl ll' il zl zr := by
  unfold St; rw [stk_perm (left F c) h h' e]

omit [∀ e, Nonempty (Elt F e)] in
theorem bigSep_G (Φ : G → sProp 𝕄) : bigSep Finset.univ Φ = iprop(Φ .a ∗ Φ .b ∗ Φ .c) := bigSep_univ_eq_bigSepL [G.a, G.b, G.c] (by decide) (by decide) Φ

theorem q_acc {Q : PUnit.{1} → sProp 𝕄} {k : P F} :
    iprop(ctx m K ∗ stk (accO m c) blks.reverse ∗ (bigSep Finset.univ fun g => ownE F c (col g)) ∗ St m c sends1 gone0 (arr ++ amin) [] [])
      ⊢ iprop((((bigSep Finset.univ fun g => own' c (slab (accM g) 0) fullShare (low m c g))
          ∗ (bigSep Finset.univ fun g => own' c (col g) fullShare (outC m c g)) ∗ St m c ams gone1 amin [] arr.reverse) -∗ W c k Q)
        -∗ W c (seqAcc c k) Q) := by
  obtain ⟨h0, h1, h2, h3, h4, h5, h6, h7, h8⟩ := acc_dev c
  rw [bigSep_G, bigSep_G, bigSep_G]
  unfold seqAcc
  rw [show blks.reverse = [(.c, 0), (.b, 0), (.a, 0), (.c, 2), (.b, 2), (.a, 2), (.c, 3), (.b, 3), (.a, 3), (.c, 1), (.b, 1), (.a, 1)] from rfl,
    show arr ++ amin = [.s0 .a 1, .s0 .a 3, .s0 .b 1, .s0 .b 3, .s0 .c 1, .s0 .c 3, .s0 .a 2, .s0 .b 2, .s0 .c 2, .s1 .a 1, .s1 .b 1, .s1 .c 1, .s0 .a 0, .s1 .a 0, .s0 .b 0, .s1 .b 0, .s0 .c 0, .s1 .c 0, .s2 .a, .s2 .b, .s2 .c, .am 6, .am 5, .am 4, .am 3, .am 2, .am 1, .am 0] from rfl,
    show arr.reverse = [.s2 .c, .s2 .b, .s2 .a, .s1 .c 0, .s0 .c 0, .s1 .b 0, .s0 .b 0, .s1 .a 0, .s0 .a 0, .s1 .c 1, .s1 .b 1, .s1 .a 1, .s0 .c 2, .s0 .b 2, .s0 .a 2, .s0 .c 3, .s0 .c 1, .s0 .b 3, .s0 .b 1, .s0 .a 3, .s0 .a 1] from rfl]
  simp only [stk_cons]
  iintro ⟨#HC, ⟨Hc0, Hb0, Ha0, Hc2, Hb2, Ha2, Hc3, Hb3, Ha3, Hc1, Hb1, Ha1, -⟩, ⟨Hya, Hyb, Hyc⟩, HS⟩ Hk
  iapply (s_odd m K (sl := [.s1 .b 1, .s1 .b 0, .s1 .c 1, .s1 .c 0, .s2 .a, .s2 .b, .s2 .c, .am 0, .am 1, .am 2, .am 3, .am 4, .am 5, .am 6]) .a _ _ h0 h1 (by decide)) $$ [Ha1 Ha3 HS]
  · isplitr; · iexact HC
    isplitl [Ha1]; · iexact Ha1
    isplitl [Ha3] <;> iassumption
  iintro HS
  iapply (s_odd m K (sl := [.s1 .c 1, .s1 .c 0, .s2 .a, .s2 .b, .s2 .c, .am 0, .am 1, .am 2, .am 3, .am 4, .am 5, .am 6]) .b _ _ h2 h3 (by decide)) $$ [Hb1 Hb3 HS]
  · isplitr; · iexact HC
    isplitl [Hb1]; · iexact Hb1
    isplitl [Hb3] <;> iassumption
  iintro HS
  iapply (s_odd m K (sl := [.s2 .a, .s2 .b, .s2 .c, .am 0, .am 1, .am 2, .am 3, .am 4, .am 5, .am 6]) .c _ _ h4 h5 (by decide)) $$ [Hc1 Hc3 HS]
  · isplitr; · iexact HC
    isplitl [Hc1]; · iexact Hc1
    isplitl [Hc3] <;> iassumption
  iintro HS
  iapply (s_acc0 m K (sl := [.s2 .a, .s2 .b, .s2 .c, .am 0, .am 1, .am 2, .am 3, .am 4, .am 5, .am 6]) .a 2 (by decide)) $$ [Ha2 HS]
  · isplitr; · iexact HC
    isplitl [Ha2]; · unfold accO; iexact Ha2
    iexact HS
  iintro ⟨Ha2, HS⟩
  iapply (s_acc0 m K (sl := [.s2 .a, .s2 .b, .s2 .c, .am 0, .am 1, .am 2, .am 3, .am 4, .am 5, .am 6]) .b 2 (by decide)) $$ [Hb2 HS]
  · isplitr; · iexact HC
    isplitl [Hb2]; · unfold accO; iexact Hb2
    iexact HS
  iintro ⟨Hb2, HS⟩
  iapply (s_acc0 m K (sl := [.s2 .a, .s2 .b, .s2 .c, .am 0, .am 1, .am 2, .am 3, .am 4, .am 5, .am 6]) .c 2 (by decide)) $$ [Hc2 HS]
  · isplitr; · iexact HC
    isplitl [Hc2]; · unfold accO; iexact Hc2
    iexact HS
  iintro ⟨Hc2, HS⟩
  iapply (s_mid m K (sl := [.s2 .b, .s2 .c, .am 0, .am 1, .am 2, .am 3, .am 4, .am 5, .am 6]) .a _ h6 (by decide)) $$ [Ha2 HS]
  · isplitr; · iexact HC
    isplitl [Ha2] <;> iassumption
  iintro HS
  iapply (s_mid m K (sl := [.s2 .c, .am 0, .am 1, .am 2, .am 3, .am 4, .am 5, .am 6]) .b _ h7 (by decide)) $$ [Hb2 HS]
  · isplitr; · iexact HC
    isplitl [Hb2] <;> iassumption
  iintro HS
  iapply (s_mid m K (sl := [.am 0, .am 1, .am 2, .am 3, .am 4, .am 5, .am 6]) .c _ h8 (by decide)) $$ [Hc2 HS]
  · isplitr; · iexact HC
    isplitl [Hc2] <;> iassumption
  iintro HS
  iapply (s_low m K (sl := ams) .a (by decide)) $$ [Ha0 HS]
  · isplitr; · iexact HC
    isplitl [Ha0] <;> iassumption
  iintro ⟨Ha0, HS⟩
  iapply (s_low m K (sl := ams) .b (by decide)) $$ [Hb0 HS]
  · isplitr; · iexact HC
    isplitl [Hb0] <;> iassumption
  iintro ⟨Hb0, HS⟩
  iapply (s_low m K (sl := ams) .c (by decide)) $$ [Hc0 HS]
  · isplitr; · iexact HC
    isplitl [Hc0] <;> iassumption
  iintro ⟨Hc0, HS⟩
  iapply (s_end m K (sl := ams) .a (by decide)) $$ [Ha0 Hya HS]
  · isplitr; · iexact HC
    isplitl [Ha0]; · iexact Ha0
    isplitl [Hya] <;> iassumption
  iintro ⟨Ha0, Hya, HS⟩
  iapply (s_end m K (sl := ams) .b (by decide)) $$ [Hb0 Hyb HS]
  · isplitr; · iexact HC
    isplitl [Hb0]; · iexact Hb0
    isplitl [Hyb] <;> iassumption
  iintro ⟨Hb0, Hyb, HS⟩
  iapply (s_end m K (sl := ams) .c (by decide)) $$ [Hc0 Hyc HS]
  · isplitr; · iexact HC
    isplitl [Hc0]; · iexact Hc0
    isplitl [Hyc] <;> iassumption
  iintro ⟨Hc0, Hyc, HS⟩
  iapply Hk
  isplitl [Ha0 Hb0 Hc0]
  · isplitl [Ha0]; · iexact Ha0
    isplitl [Hb0] <;> iassumption
  isplitl [Hya Hyb Hyc]
  · isplitl [Hya]; · iexact Hya
    isplitl [Hyb] <;> iassumption
  iexact HS

theorem q_gone {Q : PUnit.{1} → sProp 𝕄} {k : P F} :
    iprop(ctx m K ∗ St m c sl gone1 il [] zr)
      ⊢ iprop((St m c sl [] il goneP.reverse zr -∗ W c k Q) -∗ W c (stGone c .a <| stGone c .b <| stGone c .c k) Q) := by
  rw [show goneP.reverse = [.s2 .c, .s1 .c 1, .s1 .c 0, .s0 .c 3, .s0 .c 2, .s0 .c 1, .s0 .c 0, .s2 .b, .s1 .b 1, .s1 .b 0, .s0 .b 3, .s0 .b 2, .s0 .b 1, .s0 .b 0, .s2 .a, .s1 .a 1, .s1 .a 0, .s0 .a 3, .s0 .a 2, .s0 .a 1, .s0 .a 0] from rfl]
  iintro ⟨#HC, HS⟩ Hk
  ihave HS := (St_perm m gone1_nodup goneP_nodup gone_perm) $$ HS
  iapply (s_gone m K .a) $$ [HS]
  · isplitr; · iexact HC
    iexact HS
  iintro HS
  iapply (s_gone m K .b) $$ [HS]
  · isplitr; · iexact HC
    iexact HS
  iintro HS
  iapply (s_gone m K .c) $$ [HS]
  · isplitr; · iexact HC
    iexact HS
  iexact Hk

/-! ## The largest entries -/

theorem q_max {Q : PUnit.{1} → sProp 𝕄} {k : Vec F S512x2048 .f32 → P F} :
    iprop((bigSep Finset.univ fun g => own' c (col g) fullShare (outC m c g)) ∗ ownE F c amM)
      ⊢ iprop(((own' c outM fullShare (yv m c) ∗ own' c amM fullShare (k0_pay60 (yv m c))) -∗ W c (k (yv m c)) Q) -∗ W c (stMax k) Q) := by
  unfold stMax ownE
  iintro ⟨Hy, %X, Ha⟩ Hk
  ihave Hy := (cols_join m c) $$ Hy
  iapply (ldf (M := outM) fullShare (yv m c)) $$ Hy; iintro Hy
  iapply (ldf (M := amM) fullShare X) $$ Ha; iintro Ha
  iapply (stf (M := amM) X) $$ Ha; iintro Ha
  iapply Hk
  isplitl [Hy] <;> iassumption

/-- The row is lent out by halves. -/
theorem lend (n : ℕ) (X : Vec F S1x128 .f32) : own' c amM (rst n) X ⊢ iprop(own' c amM (rst n).left X ∗ own' c amM (rst (n + 1)) X) :=
  (owns_halves (c : Thread nD τ) amM (rst n) X).1
theorem unlend (n : ℕ) (X : Vec F S1x128 .f32) : iprop(own' c amM (rst n).left X ∗ own' c amM (rst (n + 1)) X) ⊢ own' c amM (rst n) X :=
  (owns_halves (c : Thread nD τ) amM (rst n) X).2

theorem s_am {Q : PUnit.{1} → sProp 𝕄} {k : P F} (o : Fin 7) (n : Dev nD) (hn : n = rot o c) :
    iprop(ctx m K ∗ own' c amM (rst o.val) (k0_pay60 (yv m c)) ∗ St m c (.am o :: sl) ll il zl zr)
      ⊢ iprop(((own' c amM (rst (o.val + 1)) (k0_pay60 (yv m c)) ∗ St m c sl (.am o :: ll) il zl zr) -∗ W c k Q) -∗ W c (stSend c (.am o) n k) Q) := by
  iintro ⟨#HC, Ha, HS⟩ Hk
  ihave Ha := (lend o.val _) $$ Ha
  icases Ha with ⟨Ha, Hr⟩
  iapply (s_send m K (.am o) n hn) $$ [Ha HS]
  · isplitr; · iexact HC
    isplitl [Ha]; · iexact Ha
    iexact HS
  iintro HS
  iapply Hk
  isplitl [Hr] <;> iassumption

theorem q_seqMax {Q : PUnit.{1} → sProp 𝕄} {k : P F} :
    iprop(ctx m K ∗ own' c amM fullShare (k0_pay60 (yv m c)) ∗ St m c ams [] amin goneP.reverse arr.reverse)
      ⊢ iprop(((own' c amM (rst 7) (k0_pay60 (yv m c)) ∗ St m c [] [] [] (ams.reverse ++ goneP.reverse) (amin.reverse ++ arr.reverse)) -∗ W c k Q)
        -∗ W c (seqMax c k) Q) := by
  obtain ⟨h0, h1, h2, h3, h4, h5, h6⟩ := max_dev c
  unfold seqMax
  iintro ⟨#HC, Ha, HS⟩ Hk
  iapply (s_am m K 0 _ h0) $$ [Ha HS]
  · isplitr; · iexact HC
    isplitl [Ha]; · iexact Ha
    iexact HS
  iintro ⟨Ha, HS⟩
  iapply (s_am m K 1 _ h1) $$ [Ha HS]
  · isplitr; · iexact HC
    isplitl [Ha]; · iexact Ha
    iexact HS
  iintro ⟨Ha, HS⟩
  iapply (s_am m K 2 _ h2) $$ [Ha HS]
  · isplitr; · iexact HC
    isplitl [Ha]; · iexact Ha
    iexact HS
  iintro ⟨Ha, HS⟩
  iapply (s_am m K 3 _ h3) $$ [Ha HS]
  · isplitr; · iexact HC
    isplitl [Ha]; · iexact Ha
    iexact HS
  iintro ⟨Ha, HS⟩
  iapply (s_am m K 4 _ h4) $$ [Ha HS]
  · isplitr; · iexact HC
    isplitl [Ha]; · iexact Ha
    iexact HS
  iintro ⟨Ha, HS⟩
  iapply (s_am m K 5 _ h5) $$ [Ha HS]
  · isplitr; · iexact HC
    isplitl [Ha]; · iexact Ha
    iexact HS
  iintro ⟨Ha, HS⟩
  iapply (s_am m K 6 _ h6) $$ [Ha HS]
  · isplitr; · iexact HC
    isplitl [Ha]; · iexact Ha
    iexact HS
  iintro ⟨Ha, HS⟩
  iapply (s_row m K 0) $$ [HS]
  · isplitr; · iexact HC
    iexact HS
  iintro HS
  iapply (s_row m K 1) $$ [HS]
  · isplitr; · iexact HC
    iexact HS
  iintro HS
  iapply (s_row m K 2) $$ [HS]
  · isplitr; · iexact HC
    iexact HS
  iintro HS
  iapply (s_row m K 3) $$ [HS]
  · isplitr; · iexact HC
    iexact HS
  iintro HS
  iapply (s_row m K 4) $$ [HS]
  · isplitr; · iexact HC
    iexact HS
  iintro HS
  iapply (s_row m K 5) $$ [HS]
  · isplitr; · iexact HC
    iexact HS
  iintro HS
  iapply (s_row m K 6) $$ [HS]
  · isplitr; · iexact HC
    iexact HS
  iintro HS
  ihave HS := (St_perm m (ll := [.am 6, .am 5, .am 4, .am 3, .am 2, .am 1, .am 0]) ams_nodup' ams_nodup ams_perm) $$ HS
  iapply (s_left m K (.am 0)) $$ [HS]
  · isplitr; · iexact HC
    iexact HS
  iintro HS
  iapply (s_left m K (.am 1)) $$ [HS]
  · isplitr; · iexact HC
    iexact HS
  iintro HS
  iapply (s_left m K (.am 2)) $$ [HS]
  · isplitr; · iexact HC
    iexact HS
  iintro HS
  iapply (s_left m K (.am 3)) $$ [HS]
  · isplitr; · iexact HC
    iexact HS
  iintro HS
  iapply (s_left m K (.am 4)) $$ [HS]
  · isplitr; · iexact HC
    iexact HS
  iintro HS
  iapply (s_left m K (.am 5)) $$ [HS]
  · isplitr; · iexact HC
    iexact HS
  iintro HS
  iapply (s_left m K (.am 6)) $$ [HS]
  · isplitr; · iexact HC
    iexact HS
  iintro HS
  iapply Hk
  isplitl [Ha]; · iexact Ha
  iexact HS

end Fin

end Cert.KernelIdeal.Rsc

end
-- ==== Proof.Fin.lean ====
/- What a device hands out at the start and has back at the end, and the whole body. -/
module

public import proofs.«01_k».proof.Proof.Acc

@[expose] public section

set_option maxRecDepth 16384

noncomputable section

namespace Cert.KernelIdeal.Rsc

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Fin
variable (m : (ℓ : Loc nD τ sig) → Buf (Elt F) ℓ) (K : Dev nD × Option (Fin 64) → ℕ) [∀ e, Nonempty (Elt F e)]
variable {c : Dev nD}

theorem unrot_ne (o : Fin 7) (c : Dev nD) : unrot o c ≠ c := by revert o c; decide

omit [FloatOps F] [∀ e, Nonempty (Elt F e)] in
/-- A family over the devices: the device itself, and the others. -/
theorem rows_peel (Φ : Dev nD → sProp 𝕄) : bigSep Finset.univ Φ = iprop(Φ c ∗ bigSep Finset.univ fun o : Fin 7 => Φ (unrot o c)) := by
  rw [bigSep_univ_at Φ c, erase_unrot, bigSep_image_of_injOn (fun a _ b _ h => unrot_injOn c h)]

omit [∀ e, Nonempty (Elt F e)] in
theorem own_some {s : Shape} {e : EltTy} {M : VM s e} (X : s.Idx → Elt F e) : own' c M fullShare X ⊢ ownE F c M := by
  unfold ownE; iintro H; iexists X; iexact H

/-- Row `c` of the table, which no copy writes. -/
def ownRow (F : FTy → Type) [FloatOps F] (c : Dev nD) : sProp (MT nD τ sig Unit (Elt F) ℕ UU ℕ) :=
  own' c (amRow c) fullShare fun j => k0_pay2 (F := F) ((amR c).emb j)

theorem slots_intro : iprop((bigSep Finset.univ fun g => ownE F c (rc0M g)) ∗ (bigSep Finset.univ fun g => ownE F c (rc1M g))
      ∗ (bigSep Finset.univ fun g => ownE F c (rc2M g)) ∗ own' c arM fullShare (k0_pay2 (F := F)))
    ⊢ iprop(bigSep Finset.univ (slot F c) ∗ ownRow F c) := by
  have h0 : (bigSep Finset.univ fun g => ownE F c (rc0M g)) ⊢ bigSep Finset.univ fun g => bigSep Finset.univ fun j => slot F c (.s0 g j) :=
    bigSep_mono fun g _ => slabs_split c (rc0M g)
  have h1 : (bigSep Finset.univ fun g => ownE F c (rc1M g)) ⊢ bigSep Finset.univ fun g => bigSep Finset.univ fun j => slot F c (.s1 g j) :=
    bigSep_mono fun g _ => slabs_split c (rc1M g)
  have h3 : (bigSep Finset.univ fun d => own' c (amRow d) fullShare (fun j => k0_pay2 (F := F) ((amR d).emb j)))
      ⊢ iprop(ownRow F c ∗ bigSep Finset.univ fun o => slot F c (.am o)) := by
    rw [rows_peel (c := c)]
    refine BIClass.sep_mono .rfl (bigSep_mono fun o _ => ?_)
    exact own_some (c := c) (M := amRow (unrot o c)) _
  rw [bigSep_T (slot F c)]
  iintro ⟨H0, H1, H2, Ha⟩
  ihave H0 := h0 $$ H0
  ihave H1 := h1 $$ H1
  ihave Ha := (rows_split c) $$ Ha
  ihave Ha := h3 $$ Ha
  icases Ha with ⟨Hr, Ha⟩
  isplitr [Hr]
  · isplitl [H0 H1]
    · isplitl [H0] <;> iassumption
    isplitl [H2]; · iexact H2
    iexact Ha
  iexact Hr

theorem slots_back : iprop(bigSep Finset.univ (kept m c) ∗ ownRow F c)
    ⊢ iprop((bigSep Finset.univ fun g => ownE F c (rc0M g)) ∗ (bigSep Finset.univ fun g => ownE F c (rc1M g))
      ∗ (bigSep Finset.univ fun g => ownE F c (rc2M g)) ∗ own' c arM fullShare (tbl m c)) := by
  have h0 : (bigSep Finset.univ fun g => bigSep Finset.univ fun j => kept m c (.s0 g j)) ⊢ bigSep Finset.univ fun g => ownE F c (rc0M g) :=
    bigSep_mono fun g _ => slabs_join c (rc0M g)
  have h1 : (bigSep Finset.univ fun g => bigSep Finset.univ fun j => kept m c (.s1 g j)) ⊢ bigSep Finset.univ fun g => ownE F c (rc1M g) :=
    bigSep_mono fun g _ => slabs_join c (rc1M g)
  have h3 : iprop(ownRow F c ∗ bigSep Finset.univ fun o => kept m c (.am o))
      ⊢ (bigSep Finset.univ fun d => own' c (amRow d) fullShare (rowV m c d)) := by
    rw [rows_peel (c := c)]
    refine BIClass.sep_mono (Entails.of_eq ?_) (bigSep_mono fun o _ =>
      show kept m c (.am o) ⊢ own' c (amRow (unrot o c)) fullShare (rowV m c (unrot o c)) from Entails.of_eq ?_)
    · unfold ownRow rowV; rw [if_pos rfl]
    · unfold rowV; rw [if_neg (unrot_ne o c)]; rfl
  rw [bigSep_T (kept m c)]
  iintro ⟨⟨⟨H0, H1⟩, H2, Ha⟩, Hr⟩
  ihave H0 := h0 $$ H0
  ihave H1 := h1 $$ H1
  isplitl [H0]; · iexact H0
  isplitl [H1]; · iexact H1
  isplitl [H2]; · iexact H2
  iapply (rows_join m c)
  iapply h3
  isplitl [Hr] <;> iassumption

omit [FloatOps F] [∀ e, Nonempty (Elt F e)] in
theorem bigSep_four (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
omit [FloatOps F] [∀ e, Nonempty (Elt F e)] in
theorem bigSep_two (Φ : Fin 2 → sProp 𝕄) : bigSep Finset.univ Φ = iprop(Φ 0 ∗ Φ 1) :=
  bigSep_univ_eq_bigSepL [(0 : Fin 2), (1 : Fin 2)] (by decide) (by decide) Φ
omit [FloatOps F] [∀ e, Nonempty (Elt F e)] in
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), (1 : Fin 7), (2 : Fin 7), (3 : Fin 7), (4 : Fin 7), (5 : Fin 7), (6 : Fin 7)] (by decide) (by decide) Φ

/-- The seven shares of the row come back to the eighth. -/
theorem unlend_all (X : Vec F S1x128 .f32) : iprop((bigSep Finset.univ fun o : Fin 7 => own' c amM (rst o.val).left X) ∗ own' c amM (rst 7) X)
    ⊢ own' c amM fullShare X := by
  rw [bigSep_seven]
  iintro ⟨⟨H0, H1, H2, H3, H4, H5, H6⟩, H⟩
  ihave H := (unlend 6 X) $$ [H6 H]
  · isplitl [H6]; · iexact H6
    iexact H
  ihave H := (unlend 5 X) $$ [H5 H]
  · isplitl [H5]; · iexact H5
    iexact H
  ihave H := (unlend 4 X) $$ [H4 H]
  · isplitl [H4]; · iexact H4
    iexact H
  ihave H := (unlend 3 X) $$ [H3 H]
  · isplitl [H3]; · iexact H3
    iexact H
  ihave H := (unlend 2 X) $$ [H2 H]
  · isplitl [H2]; · iexact H2
    iexact H
  ihave H := (unlend 1 X) $$ [H1 H]
  · isplitl [H1]; · iexact H1
    iexact H
  iapply (unlend 0 X)
  isplitl [H0]; · iexact H0
  iexact H

/-- What was sent comes back: the send buffers, the accumulators and the row. -/
theorem pays_back : iprop(bigSep Finset.univ (sndPay m c) ∗ (bigSep Finset.univ fun g => own' c (slab (accM g) 0) fullShare (low m c g))
      ∗ own' c amM (rst 7) (k0_pay60 (yv m c)))
    ⊢ iprop((bigSep Finset.univ fun g => ownE F c (sndM g)) ∗ (bigSep Finset.univ fun g => ownE F c (accM g)) ∗ ownE F c amM) := by
  have h0 : (bigSep Finset.univ fun g => bigSep Finset.univ fun j => sndPay m c (.s0 g j)) ⊢ bigSep Finset.univ fun g => ownE F c (sndM g) :=
    bigSep_mono fun g _ => BIBase.Entails.trans
      (show (bigSep Finset.univ fun j => sndPay m c (.s0 g j)) ⊢ bigSep Finset.univ fun j => ownE F c (slab (sndM g) j) from
        bigSep_mono fun j _ => own_some (c := c) (M := slab (sndM g) j) _) (slabs_join c (sndM g))
  have h1 : iprop(((bigSep Finset.univ fun g => bigSep Finset.univ fun j => sndPay m c (.s1 g j)) ∗ (bigSep Finset.univ fun g => sndPay m c (.s2 g)))
      ∗ (bigSep Finset.univ fun g => own' c (slab (accM g) 0) fullShare (low m c g))) ⊢ bigSep Finset.univ fun g => ownE F c (accM g) := by
    rw [← bigSep_sep', ← bigSep_sep']
    refine bigSep_mono fun g _ => ?_
    show iprop(((bigSep Finset.univ fun j => sndPay m c (.s1 g j)) ∗ sndPay m c (.s2 g)) ∗ own' c (slab (accM g) 0) fullShare (low m c g)) ⊢ ownE F c (accM g)
    refine BIBase.Entails.trans ?_ (slabs_join c (accM g))
    rw [bigSep_four, bigSep_two]
    unfold sndPay ownE
    iintro ⟨⟨⟨H1, H3⟩, H2⟩, H0⟩
    isplitl [H0]; · iexists _; iexact H0
    isplitl [H1]; · iexists _; iexact H1
    isplitl [H2]; · iexists _; iexact H2
    iexists _; iexact H3
  rw [bigSep_T (sndPay m c)]
  iintro ⟨⟨⟨H0, H1⟩, H2, Ha⟩, Hl, Hr⟩
  ihave H0 := h0 $$ H0
  isplitl [H0]; · iexact H0
  isplitl [H1 H2 Hl]
  · iapply h1
    isplitr [Hl]
    · isplitl [H1] <;> iassumption
    iexact Hl
  unfold ownE
  iexists (k0_pay60 (yv m c))
  iapply (unlend_all (k0_pay60 (yv m c)))
  isplitl [Ha]; · iexact Ha
  iexact Hr

/-! ## The scratch buffers and the semaphores -/

/-- The scratch buffers, at some contents. -/
def scr (F : FTy → Type) (c : Dev nD) : sProp (MT nD τ sig Unit (Elt F) ℕ UU ℕ) :=
  iprop((bigSep Finset.univ fun g => ownE F c (sndM g)) ∗ (bigSep Finset.univ fun g => ownE F c (accM g))
    ∗ (bigSep Finset.univ fun g => ownE F c (rc0M g)) ∗ (bigSep Finset.univ fun g => ownE F c (rc1M g)) ∗ (bigSep Finset.univ fun g => ownE F c (rc2M g))
    ∗ ownE F c xM ∗ ownE F c wM ∗ ownE F c amM ∗ ownE F c arM)

/-- The device's own semaphores, all at zero. -/
abbrev sems0 (F : FTy → Type) (c : Dev nD) : sProp (MT nD τ sig Unit (Elt F) ℕ UU ℕ) :=
  bigSep Finset.univ fun i : Fin 64 => semVal ((c : Thread nD τ), osem i) 0

omit [∀ e, Nonempty (Elt F e)] in
theorem sems_back : iprop((bigSep Finset.univ fun t : T => semVal (sndCell c t) 0) ∗ (bigSep Finset.univ fun t : T => semVal (rcvCell c t) 0)
      ∗ (bigSep (freeIx c) fun i => semVal ((c : Thread nD τ), osem i) 0))
    ⊢ (sems0 F c : sProp 𝕄) :=
  Entails.of_eq (cells_split (F := F) c fun s => semVal ((c : Thread nD τ), s) 0).symm

/-- What the output holds in the end. -/
def finV (c : Dev nD) : Vec F S512x2048 .f32 :=
  k0_pay1 (k0_pay62 (k0_pay59 (yv m c)) (tbl m c) (yv m c)) (k0_pay63 (k0_pay59 (yv m c)) (tbl m c))

theorem q_fin {Q : PUnit.{1} → sProp 𝕄} :
    iprop(own' c arM fullShare (tbl m c) ∗ own' c outM fullShare (yv m c))
      ⊢ iprop(((own' c arM fullShare (tbl m c) ∗ own' c outM fullShare (finV m c)) -∗ W c (.ret ⟨⟩) Q) -∗ W c (stFin (yv m c)) Q) := by
  unfold stFin finV
  iintro ⟨Ht, Hy⟩ Hk
  iapply (ldf (M := arM) fullShare (tbl m c)) $$ Ht; iintro Ht
  iapply (ldf (M := outM) fullShare (yv m c)) $$ Hy; iintro Hy
  iapply (ldf (M := outM) fullShare (yv m c)) $$ Hy; iintro Hy
  iapply (stf (M := outM) (yv m c)) $$ Hy; iintro Hy
  iapply Hk
  isplitl [Ht]; · iexact Ht
  iexact Hy

/-- Everything a device has at the end of the exchange, put back together. -/
theorem all_back : iprop((stk (back m c) (ams.reverse ++ goneP.reverse) ∗ stk (done m c) (amin.reverse ++ arr.reverse))
      ∗ (bigSep Finset.univ fun g => own' c (slab (accM g) 0) fullShare (low m c g)) ∗ own' c amM (rst 7) (k0_pay60 (yv m c)) ∗ ownRow F c
      ∗ (bigSep (freeIx c) fun i => semVal ((c : Thread nD τ), osem i) 0) ∗ ops m c)
    ⊢ iprop(own' c arM fullShare (tbl m c) ∗ sems0 F c ∗ (ownE F c arM -∗ scr F c)) := by
  rw [← stk_univ (back m c) _ backs_univ backs_nodup, ← stk_univ (done m c) _ got_univ got_nodup]
  unfold back done
  rw [bigSep_sep', bigSep_sep']
  iintro ⟨⟨⟨Hz, Hp⟩, Hv, Hk⟩, Hl, Ha, Hr, Hf, Ho⟩
  ihave Hp := (pays_back m (c := c)) $$ [Hp Hl Ha]
  · isplitl [Hp]; · iexact Hp
    isplitl [Hl] <;> iassumption
  icases Hp with ⟨Hsnd, Hacc, Ham⟩
  ihave Hk := (slots_back m (c := c)) $$ [Hk Hr]
  · isplitl [Hk] <;> iassumption
  icases Hk with ⟨H0, H1, H2, Hrow⟩
  isplitl [Hrow]; · iexact Hrow
  isplitl [Hz Hv Hf]
  · iapply (sems_back (F := F) (c := c))
    isplitl [Hz]; · iexact Hz
    isplitl [Hv] <;> iassumption
  iintro Hrow
  unfold ops scr
  icases Ho with ⟨Hx, Hw⟩
  isplitl [Hsnd]; · iexact Hsnd
  isplitl [Hacc]; · iexact Hacc
  isplitl [H0]; · iexact H0
  isplitl [H1]; · iexact H1
  isplitl [H2]; · iexact H2
  isplitl [Hx]; · iexists _; iexact Hx
  isplitl [Hw]; · iexists _; iexact Hw
  isplitl [Ham]; · iexact Ham
  iexact Hrow

/-! ## The body -/

/-- What a device starts with beside its buffers. -/
def gear (c : Dev nD) : sProp 𝕄 :=
  iprop((bigSep Finset.univ fun o : Fin 7 => dutyTok ER (barCell (rot o c)) 0 (.bar c))
    ∗ cred (tallyAt (barCell c) () 7) ∗ atPos ER (barCell c) 0 ∅ 0 ∗ bigSep Finset.univ (tok F c) ∗ bigSep Finset.univ (inbox F c) ∗ idle F c)

theorem bars_intro : iprop((bigSep Finset.univ fun o : Fin 7 => dutyTok ER (barCell (rot o c)) 0 (.bar c)) ∗ bigSep Finset.univ (slot F c))
    ⊢ stk (sigR F c) sigs := by
  rw [← bars_eq, ← bigSep_sep', ← stk_univ (sigR F c) sigs (by decide) (by decide)]
  exact .rfl

theorem snd_intro : (bigSep Finset.univ fun g => ownE F c (sndM g)) ⊢ stk (sndE F c) blks := by
  rw [← stk_blks]
  exact bigSep_mono fun g _ => slabs_split c (sndM g)
theorem acc_intro : (bigSep Finset.univ fun g => ownE F c (accM g)) ⊢ stk (accE F c) blks := by
  rw [← stk_blks]
  exact bigSep_mono fun g _ => slabs_split c (accM g)

theorem body_run {Q : PUnit.{1} → sProp 𝕄} :
    iprop(ctx m K ∗ gear (F := F) c ∗ scr F c ∗ own' c inX fullShare (xstg m c) ∗ own' c inW fullShare (wstg m c) ∗ ownE F c outM ∗ ow F c obs)
      ⊢ iprop(((scr F c ∗ sems0 F c ∗ semVal (barCell c) 0 ∗ own' c inX fullShare (xstg m c) ∗ own' c inW fullShare (wstg m c)
          ∗ own' c outM fullShare (finV m c) ∗ ow F c []) -∗ W c (.ret ⟨⟩) Q) -∗ W c (prog c) Q) := by
  unfold gear scr prog
  iintro ⟨#HC, ⟨Htb, Hcb, Hab, Htk, Hin, Hid⟩, ⟨Hsnd, Hacc, H0, H1, H2, Hx, Hw, Ham, Har⟩, Hix, Hiw, Hout, How⟩ Hk
  imod (idle_close m K c) $$ [Hid] with Hfree
  · isplitr; · iexact HC
    iexact Hid
  iapply (q_zero (c := c)) $$ Har; iintro Har
  ihave Hs := (slots_intro (c := c)) $$ [H0 H1 H2 Har]
  · isplitl [H0]; · iexact H0
    isplitl [H1]; · iexact H1
    isplitl [H2] <;> iassumption
  icases Hs with ⟨Hs, Hrow⟩
  ihave Hs := (bars_intro (c := c)) $$ [Htb Hs]
  · isplitl [Htb] <;> iassumption
  iapply (q_sig m K) $$ [Hs How]
  · isplitr; · iexact HC
    isplitl [Hs] <;> iassumption
  iintro How
  iapply (wp_bar m K (sends.map .tr) (by decide)) $$ [Hcb Hab How]
  · isplitr; · iexact HC
    isplitl [Hcb]; · iexact Hcb
    isplitl [Hab] <;> iassumption
  iintro ⟨Hzb, Hd, How⟩
  ihave Hdue := (due_intro (F := F) (c := c)) $$ [Htk Hd]
  · isplitl [Htk]; · iexact Htk
    iexact Hd
  iapply (q_cast m) $$ [Hix Hiw Hx Hw]
  · isplitl [Hix]; · iexact Hix
    isplitl [Hiw]; · iexact Hiw
    isplitl [Hx] <;> iassumption
  iintro ⟨Hix, Hiw, Hops⟩
  ihave Hsnd := (snd_intro (c := c)) $$ Hsnd
  ihave Hacc := (acc_intro (c := c)) $$ Hacc
  ihave Hin := (Entails.of_eq (stk_univ (inbox F c) (arr ++ amin) arr_univ arr_nodup)) $$ Hin
  iapply (q_blk m K (il := arr ++ amin) (zl := []) (zr := [])) $$ [Hops Hsnd Hdue Hin How]
  · isplitr; · iexact HC
    isplitl [Hops]; · iexact Hops
    isplitl [Hsnd]; · iexact Hsnd
    unfold St
    isplitl [Hdue]; · iexact Hdue
    isplitr; · unfold stk; iempintro
    isplitl [Hin]; · iexact Hin
    isplitr; · unfold stk; iempintro
    isplitr; · unfold stk; iempintro
    iexact How
  iintro ⟨Hops, HS⟩
  iapply (q_own m) $$ [Hops Hacc]
  · isplitl [Hops]; · iexact Hops
    isplitl [Hacc]; · iexact Hacc
    unfold stk; iempintro
  iintro ⟨Hops, Hacc⟩
  ihave Hout := (cols_split c) $$ Hout
  iapply (q_acc m K) $$ [Hacc Hout HS]
  · isplitr; · iexact HC
    isplitl [Hacc]; · iexact Hacc
    isplitl [Hout] <;> iassumption
  iintro ⟨Hlow, Hout, HS⟩
  iapply (q_gone m K) $$ [HS]
  · isplitr; · iexact HC
    iexact HS
  iintro HS
  iapply (q_max m) $$ [Hout Ham]
  · isplitl [Hout] <;> iassumption
  iintro ⟨Hout, Ham⟩
  iapply (q_seqMax m K) $$ [Ham HS]
  · isplitr; · iexact HC
    isplitl [Ham] <;> iassumption
  iintro ⟨Ham, HS⟩
  unfold St
  icases HS with ⟨-, -, -, Hz, Hv, How⟩
  ihave H := (all_back m (c := c)) $$ [Hz Hv Hlow Ham Hrow Hfree Hops]
  · isplitl [Hz Hv]
    · isplitl [Hz] <;> iassumption
    isplitl [Hlow]; · iexact Hlow
    isplitl [Ham]; · iexact Ham
    isplitl [Hrow]; · iexact Hrow
    isplitl [Hfree] <;> iassumption
  icases H with ⟨Har, Hsem, Hscr⟩
  iapply (q_fin m) $$ [Har Hout]
  · isplitl [Har] <;> iassumption
  iintro ⟨Har, Hout⟩
  ihave Har := (own_some (c := c) (M := arM) (tbl m c)) $$ Har
  ihave Hscr := Hscr $$ Har
  iapply Hk
  unfold scr
  isplitl [Hscr]; · iexact Hscr
  isplitl [Hsem]; · iexact Hsem
  isplitl [Hzb]; · iexact Hzb
  isplitl [Hix]; · iexact Hix
  isplitl [Hiw]; · iexact Hiw
  isplitl [Hout]; · iexact Hout
  iexact How

end Fin

end Cert.KernelIdeal.Rsc

end
-- ==== Proof.Deal.lean ====
/- The cells opened, their tokens dealt, and the credit each device starts with. -/
module

public import proofs.«01_k».proof.Proof.Fin
public import proofs.«01_k».proof.Proof.Gen.KernelIdeal.Launch
public import Idealize.ShloMosaic.Lib.Pipeline.Launch
public import Idealize.ShloMosaic.Lib.Pipeline.Kit

@[expose] public section

set_option maxRecDepth 16384

noncomputable section

namespace Cert.KernelIdeal.Rsc

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Deal
variable (m : (ℓ : Loc nD τ sig) → Buf (Elt F) ℓ)

/-! ## The cells and the tokens minted -/

theorem kcell_inj : Function.Injective (kcell : Dev nD × Option (Fin 64) → GSem nD τ sig) := by
  rintro ⟨c, k⟩ ⟨c', k'⟩ h
  have h1 : c = c' := congrArg (fun g : GSem nD τ sig => g.1.1) h
  subst h1
  have h2 : csem k = csem k' := congrArg Prod.snd h
  have h3 : k = k' := by
    cases k with
    | none => cases k' with
      | none => rfl
      | some j => cases h2
    | some i => cases k' with
      | none => cases h2
      | some j =>
        have h4 : (3 + i.val) = 3 + j.val := by injection h2 with h5; exact congrArg Fin.val h5
        exact congrArg some (Fin.ext (by omega))
  subst h3; rfl

def cellsAll : Finset (GSem nD τ sig) := Finset.univ.map ⟨kcell, kcell_inj⟩

abbrev TokIx : Type := Fin 7 ⊕ (T ⊕ T)

/-- The tokens of the duties at a device's own cells. -/
def tokAt (c : Dev nD) : TokIx → GSem nD τ sig × ℕ × Duty
  | .inl o => (barCell c, 0, .bar (unrot o c))
  | .inr (.inl t) => (sndCell c t, 0, .snd t)
  | .inr (.inr t) => (rcvCell c t, 0, .rcv t)

theorem tokAt_dev (c : Dev nD) (x : TokIx) : (tokAt c x).1.1.1 = c := by rcases x with o | t | t <;> rfl

theorem tokAt_inj : Function.Injective fun cx : Dev nD × TokIx => tokAt cx.1 cx.2 := by
  rintro ⟨c, x⟩ ⟨c', x'⟩ h
  have h1 : c = c' := by
    rw [← tokAt_dev c x, ← tokAt_dev c' x']; exact congrArg (fun y : GSem nD τ sig × ℕ × Duty => y.1.1.1) h
  subst h1
  have h2 : (tokAt c x).2.2 = (tokAt c x').2.2 := congrArg (fun y : GSem nD τ sig × ℕ × Duty => y.2.2) h
  have h3 : x = x' := by
    rcases x with o | t | t
    · rcases x' with o' | t' | t'
      · exact congrArg Sum.inl (unrot_injOn c (bar_inj h2))
      · cases h2
      · cases h2
    · rcases x' with o' | t' | t'
      · cases h2
      · injection h2 with h4; rw [h4]
      · cases h2
    · rcases x' with o' | t' | t'
      · cases h2
      · cases h2
      · injection h2 with h4; rw [h4]
  subst h3; rfl

def toksAll : Finset (GSem nD τ sig × ℕ × Duty) := Finset.univ.map ⟨fun cx : Dev nD × TokIx => tokAt cx.1 cx.2, tokAt_inj⟩

def u₀ : UU := (initOf (Pipeline.cells cfgs cellOf_inj) (Pipeline.launchToks cfgs cellOf_inj), initOf cellsAll toksAll)

/-- The tokens minted for a device's cells, by kind. -/
def minted (F : FTy → Type) (c : Dev nD) : sProp (MT nD τ sig Unit (Elt F) ℕ UU ℕ) :=
  iprop((bigSep Finset.univ fun o : Fin 7 => dutyTok ER (barCell c) 0 (.bar (unrot o c)))
    ∗ (bigSep Finset.univ fun t : T => dutyTok ER (sndCell c t) 0 (.snd t)) ∗ bigSep Finset.univ fun t : T => dutyTok ER (rcvCell c t) 0 (.rcv t))

/-- The tokens a device spends. -/
def spends (F : FTy → Type) (c : Dev nD) : sProp (MT nD τ sig Unit (Elt F) ℕ UU ℕ) :=
  iprop((bigSep Finset.univ fun o : Fin 7 => dutyTok ER (barCell (rot o c)) 0 (.bar c))
    ∗ (bigSep Finset.univ fun t : T => dutyTok ER (sndCell c t) 0 (.snd t)) ∗ bigSep Finset.univ fun t : T => dutyTok ER (dstCell c t) 0 (.rcv t))

theorem minted_spends : (bigSep Finset.univ (minted F)) = bigSep Finset.univ (spends F) := by
  unfold minted spends
  rw [bigSep_sep', bigSep_sep', bigSep_sep', bigSep_sep']
  have h1 : (bigSep Finset.univ fun c : Dev nD => bigSep Finset.univ fun o : Fin 7 => (dutyTok ER (barCell c) 0 (.bar (unrot o c)) : sProp 𝕄))
      = bigSep Finset.univ fun c : Dev nD => bigSep Finset.univ fun o : Fin 7 => dutyTok ER (barCell (rot o c)) 0 (.bar c) := by
    rw [swap_over, swap_over Finset.univ Finset.univ fun (c : Dev nD) (o : Fin 7) => (dutyTok ER (barCell (rot o c)) 0 (.bar c) : sProp 𝕄)]
    refine bigSep_congr fun o _ => ?_
    rw [bigSep_univ_equiv (rotE o)]
    refine bigSep_congr fun c _ => ?_
    show dutyTok ER (barCell (rot o c)) 0 (.bar (unrot o (rot o c))) = _
    rw [unrot_rot]
  have h2 : (bigSep Finset.univ fun c : Dev nD => bigSep Finset.univ fun t : T => (dutyTok ER (rcvCell c t) 0 (.rcv t) : sProp 𝕄))
      = bigSep Finset.univ fun c : Dev nD => bigSep Finset.univ fun t : T => dutyTok ER (dstCell c t) 0 (.rcv t) := by
    rw [swap_over, swap_over Finset.univ Finset.univ fun (c : Dev nD) (t : T) => (dutyTok ER (dstCell c t) 0 (.rcv t) : sProp 𝕄)]
    refine bigSep_congr fun t _ => ?_
    rw [bigSep_univ_equiv t.to]
    exact bigSep_congr fun c _ => by rw [rcvCell_to]
  rw [h1, h2]

/-! ## What each device is dealt -/

/-- From the launch element. -/
def dealt (c : Dev nD) : sProp 𝕄 :=
  iprop((bigSep Finset.univ fun k : Option (Fin 64) => roundState ER (Rd m) (kcell (c, k)) 0)
    ∗ (bigSep Finset.univ fun k : Option (Fin 64) => iprop(atPos ER (kcell (c, k)) 0 ∅ 0 ∗ reached ER (kcell (c, k)) 0)) ∗ minted F c)

/-- A device's positions and the tokens it spends. -/
def held (F : FTy → Type) (c : Dev nD) : sProp (MT nD τ sig Unit (Elt F) ℕ UU ℕ) :=
  iprop((bigSep Finset.univ fun k : Option (Fin 64) => atPos ER (kcell (c, k)) 0 ∅ 0) ∗ spends F c)

def kit (c : Dev nD) : sProp 𝕄 := iprop(∃ K, recs m K ∗ held F c)

omit [FloatOps F] in
theorem over_cells (Φ : GSem nD τ sig → sProp 𝕄) :
    bigSep cellsAll Φ = bigSep Finset.univ fun c : Dev nD => bigSep Finset.univ fun k : Option (Fin 64) => Φ (kcell (c, k)) := by
  unfold cellsAll; rw [bigSep_map, bigSep_univ_prod]; rfl

omit [FloatOps F] in
theorem over_toks : bigSep toksAll (fun x => (dutyTok ER x.1 x.2.1 x.2.2 : sProp 𝕄)) = bigSep Finset.univ (minted F) := by
  unfold toksAll; rw [bigSep_map, bigSep_univ_prod]
  exact bigSep_congr fun c _ => by unfold minted; rw [bigSep_univ_sum, bigSep_univ_sum]; rfl

theorem fund_cells : BI.own (ER (initOf cellsAll toksAll)) ⊢ (|==> bigSep Finset.univ (dealt m) : sProp 𝕄) := by
  iintro HX
  imod (Rounds.fund ER (Rd m) cellsAll toksAll) $$ HX with ⟨Hst, Hr, Hat, Htok⟩
  imodintro
  ihave Hst := (Entails.of_eq (over_cells fun g => roundState ER (Rd m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold dealt; simp only [bigSep_sep']
  isplitl [Hst]; · iexact Hst
  isplitl [Hat Hr]
  · isplitl [Hat] <;> iassumption
  iexact Htok

/-! ## Opening the cells -/

abbrev ownS (F : FTy → Type) (c : Dev nD) : sProp (MT nD τ sig Unit (Elt F) ℕ UU ℕ) :=
  Pipeline.ownSems0 (Ix := Unit) (Name := ℕ) (U := UU) (Lvl := ℕ) (Val := Elt F) (τ := τ) osem c

omit [FloatOps F] in
theorem ownS_eq (c : Dev nD) : ownS F c = sems0 F c := rfl
omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Over a cell's number: the barrier's, and the others. -/
theorem over_opt (Φ : Option (Fin 64) → sProp 𝕄) : bigSep Finset.univ Φ = iprop(Φ none ∗ bigSep Finset.univ fun i => Φ (some i)) := by
  rw [bigSep_univ_equiv (Equiv.optionEquivSumPUnit.{0} (Fin 64)).symm, bigSep_univ_sum]
  rw [show (bigSep Finset.univ fun b : PUnit.{1} => Φ ((Equiv.optionEquivSumPUnit.{0} (Fin 64)).symm (.inr b))) = Φ none from by
    rw [show (Finset.univ : Finset PUnit.{1}) = {PUnit.unit.{1}} from rfl, bigSep_singleton]; rfl]
  exact Idealize.SL.BI.sep_comm.antisymm Idealize.SL.BI.sep_comm

theorem open_cells (c : Dev nD) :
    iprop(ownS F c ∗ unscopedSems0 c ∗ dealt m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ minted F c) := by
  unfold dealt
  rw [unscoped_eq, ownS_eq]
  iintro ⟨Hos, Hus, Hst, Hat, Htok⟩
  imod (show iprop((bigSep Finset.univ fun k : Option (Fin 64) => semVal (kcell (c, k)) 0) ∗ bigSep Finset.univ fun k : Option (Fin 64) => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hos Hus Hst] with Hinv
  · isplitr [Hst]
    · rw [over_opt]
      isplitl [Hus]; · iexact Hus
      iexact Hos
    iexact Hst
  imodintro
  isplitl [Hinv]; · iexact Hinv
  isplitl [Hat]; · iexact Hat
  iexact Htok

theorem kit_intro (K : Dev nD × Option (Fin 64) → ℕ) (c : Dev nD) : iprop(recs m K ∗ held F c) ⊢ kit m c := by
  unfold kit
  iintro ⟨#HR, H⟩
  iexists K
  isplitr; · iexact HR
  iexact H

theorem deal_out :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ minted F c) : sProp 𝕄)
      ⊢ bigSep Finset.univ (kit m) := by
  rw [bigSep_sep', bigSep_sep', ← bigSep_univ_prod (fun ck : Dev nD × Option (Fin 64) => iprop(∃ κ : ℕ, cellInv ER (Rd m) κ (kcell ck))),
    bigSep_congr (s := Finset.univ) (fun (c : Dev nD) _ => bigSep_sep' Finset.univ (fun k : Option (Fin 64) => (atPos ER (kcell (c, k)) 0 ∅ 0 : sProp 𝕄)) (fun k => reached ER (kcell (c, k)) 0)),
    bigSep_sep', ← bigSep_univ_prod (fun ck : Dev nD × Option (Fin 64) => (reached ER (kcell ck) 0 : sProp 𝕄)), minted_spends]
  iintro ⟨HI, ⟨Hat, #HR⟩, Htok⟩
  ihave HK := (BI.bigSep_exists_pi Finset.univ (fun (ck : Dev nD × Option (Fin 64)) (κ : ℕ) => (cellInv ER (Rd m) κ (kcell ck) : sProp 𝕄))) $$ HI
  icases HK with ⟨%K, #HI⟩
  iapply (show iprop(recs m K ∗ bigSep Finset.univ (held F)) ⊢ bigSep Finset.univ (kit m) from
    bigSep_with_persistent fun c _ => kit_intro m K c)
  isplitr
  · unfold recs; rw [bigSep_sep']
    isplitl; · iexact HI
    iexact HR
  · unfold held; rw [bigSep_sep']
    isplitl [Hat]; · iexact Hat
    iexact Htok

theorem glob : (bigSep Finset.univ fun c => iprop(ownS F c ∗ unscopedSems0 c ∗ dealt m c) : sProp 𝕄)
    ⊢ |={Set.univ}=> bigSep Finset.univ (kit m) :=
  ((bigSep_mono fun c _ => open_cells m c).trans (bigSep_fupd _ _)).trans (BI.fupd_mono (deal_out m))

/-! ## The credit at launch -/

/-- What a device owes. -/
abbrev owedAt (c : Dev nD) : CellTallies nD τ sig Unit := obl c obs

theorem obl_at (d : Dev nD) (g : GSem nD τ sig) : (l : List Ob) → obl d l g () = (l.map fun x => if g = x.cell d then x.amt else 0).sum
  | [] => rfl
  | x :: l => by
    unfold obl
    rw [Pi.add_apply, Finsupp.add_apply, tallyAt_apply, obl_at d g l, List.map_cons, List.sum_cons, Nat.add_comm]
    refine congrArg (· + _) ?_
    by_cases h : g = x.cell d
    · rw [if_pos ⟨h, rfl⟩, if_pos h]
    · rw [if_neg fun h' => h h'.1, if_neg h]

def oweBar (d : Dev nD) (g : GSem nD τ sig) : ℕ := ∑ o : Fin 7, if g = barCell (rot o d) then 1 else 0
def oweTr (d : Dev nD) (g : GSem nD τ sig) : ℕ := ∑ t : T, if g = dstCell d t then t.amt else 0

theorem owed_at (d : Dev nD) (g : GSem nD τ sig) : owedAt d g () = oweBar d g + oweTr d g := by
  unfold owedAt oweBar oweTr
  rw [obl_at, List.map_append, List.sum_append, List.map_map, List.map_map, sends_univ, List.sum_toFinset _ sends_nodup,
    show (Finset.univ : Finset (Fin 7)) = sigs.toFinset from by decide, List.sum_toFinset _ (by decide : sigs.Nodup)]
  rfl

theorem bar_cell_iff {a b : Dev nD} : barCell a = barCell b ↔ a = b :=
  ⟨fun h => congrArg (fun g : GSem nD τ sig => g.1.1) h, fun h => h ▸ rfl⟩

theorem bar_ne_dma (a b : Dev nD) (q : DmaSem sig) : barCell a ≠ ((b : Thread nD τ), SemLoc.dma q) := fun h => by
  have h' : (SemLoc.reg barS : SemLoc sig) = .dma q := congrArg Prod.snd h
  cases h'

theorem oweTr_bar (c d : Dev nD) : oweTr d (barCell c) = 0 := Finset.sum_eq_zero fun t _ => if_neg (bar_ne_dma _ _ _)
theorem oweBar_rcv (c d : Dev nD) (t : T) : oweBar d (rcvCell c t) = 0 := Finset.sum_eq_zero fun o _ => if_neg (bar_ne_dma _ _ _).symm

theorem oweBar_bar (c : Dev nD) : ∑ d, oweBar d (barCell c) = 7 := by
  unfold oweBar
  rw [Finset.sum_comm]
  have h (o : Fin 7) : (∑ d : Dev nD, if barCell c = barCell (rot o d) then 1 else 0) = 1 := by
    refine (Finset.sum_eq_single (unrot o c) (fun d _ hd => if_neg fun h' => hd ?_) fun h' => absurd (Finset.mem_univ _) h').trans (if_pos ?_)
    · rw [bar_cell_iff.mp h', unrot_rot]
    · rw [rot_unrot]
  rw [Finset.sum_congr rfl fun o _ => h o, Finset.sum_const, Finset.card_univ, Fintype.card_fin]; rfl

theorem rcv_cell_iff {c d : Dev nD} {t t' : T} : rcvCell c t = dstCell d t' ↔ t' = t ∧ d = t.to.symm c := by
  constructor
  · intro h
    have h1 : c = t'.to d := congrArg (fun g : GSem nD τ sig => g.1.1) h
    have h2 : (SemLoc.dma (t.rsem (t.to.symm c)) : SemLoc sig) = .dma (t'.rsem d) := congrArg Prod.snd h
    have h3 : t'.to.symm c = d := by rw [h1, Equiv.symm_apply_apply]
    have h4 : t' = t := rsem_inj (c := c) (by injection h2 with h5; rw [h3]; exact h5.symm)
    subst h4; exact ⟨rfl, h3.symm⟩
  · rintro ⟨rfl, rfl⟩; unfold dstCell; rw [Equiv.apply_symm_apply]

theorem oweTr_rcv (c : Dev nD) (t : T) : ∑ d, oweTr d (rcvCell c t) = t.amt := by
  unfold oweTr
  refine (Finset.sum_eq_single (t.to.symm c) (fun d _ hd => ?_) fun h' => absurd (Finset.mem_univ _) h').trans ?_
  · exact Finset.sum_eq_zero fun t' _ => if_neg fun h' => hd (rcv_cell_iff.mp h').2
  · exact (Finset.sum_eq_single t (fun t' _ ht => if_neg fun h' => ht (rcv_cell_iff.mp h').1) fun h' => absurd (Finset.mem_univ _) h').trans
      (if_pos (rcv_cell_iff.mpr ⟨rfl, rfl⟩))

theorem credit_bar (c : Dev nD) : ∑ d, owedAt d (barCell c) () = 7 := by
  rw [Finset.sum_congr rfl fun d _ => (owed_at d (barCell c)).trans (by rw [oweTr_bar, Nat.add_zero]), oweBar_bar]
theorem credit_rcv (c : Dev nD) (t : T) : ∑ d, owedAt d (rcvCell c t) () = t.amt := by
  rw [Finset.sum_congr rfl fun d _ => (owed_at d (rcvCell c t)).trans (by rw [oweBar_rcv, Nat.zero_add]), oweTr_rcv]

theorem tally_of (g : GSem nD τ sig) (n : ℕ) (h : ∑ d, owedAt d g () = n) :
    tallyOn g (launchCredit (Pipeline.owing owedAt) 0 g) = (tallyAt g () n : CellTallies nD τ sig Unit) := by
  unfold tallyAt; refine congrArg _ (Finsupp.ext fun u => ?_); cases u
  rw [Pipeline.launchCredit_owing, Finsupp.single_eq_same, h]

/-- Where `t` lands at `c`. -/
def land (c : Dev nD) (t : T) : SemLoc sig := .dma (t.rsem (t.to.symm c))
theorem land_inj (c : Dev nD) : Function.Injective (land c) := fun t t' h => rsem_inj (c := c) (by unfold land at h; injection h)
def lands (c : Dev nD) : Finset (SemLoc sig) := Finset.univ.map ⟨land c, land_inj c⟩
def others : Finset (SemLoc sig) := Finset.univ.erase (.reg barS)
theorem land_sub (c : Dev nD) : lands c ⊆ others := fun x hx => by
  obtain ⟨t, _, rfl⟩ := Finset.mem_map.mp hx
  exact Finset.mem_erase.mpr ⟨(fun h : (SemLoc.dma _ : SemLoc sig) = .reg barS => by cases h), Finset.mem_univ _⟩

omit [FloatOps F] in
theorem drop_some {S R : Finset (SemLoc sig)} (h : R ⊆ S) (Φ : SemLoc sig → sProp 𝕄) : bigSep S Φ ⊢ bigSep R Φ := bigSep_subset h

omit [FloatOps F] in
theorem at_bar (Φ : SemLoc sig → sProp 𝕄) : bigSep Finset.univ Φ = iprop(Φ (.reg barS) ∗ bigSep others Φ) := bigSep_univ_at Φ _

omit [FloatOps F] in
theorem at_lands (c : Dev nD) (Φ : SemLoc sig → sProp 𝕄) : bigSep (lands c) Φ = bigSep Finset.univ fun t : T => Φ (land c t) := by
  unfold lands; rw [bigSep_map]; rfl

/-- A cell's credit at launch. -/
def due0 (F : FTy → Type) (c : Dev nD) (sm : SemLoc sig) : sProp (MT nD τ sig Unit (Elt F) ℕ UU ℕ) :=
  cred (tallyOn ((c : Thread nD τ), sm) (launchCredit (Pipeline.owing owedAt) 0 ((c : Thread nD τ), sm)))

omit [FloatOps F] in
theorem due0_of (c : Dev nD) (sm : SemLoc sig) (n : ℕ) (h : ∑ d, owedAt d ((c : Thread nD τ), sm) () = n) :
    due0 F c sm = cred (tallyAt ((c : Thread nD τ), sm) () n) := congrArg cred (tally_of _ n h)

omit [FloatOps F] in
theorem credits (c : Dev nD) :
    (Pipeline.launchCred owedAt c : sProp 𝕄)
      ⊢ iprop(cred (tallyAt (barCell c) () 7) ∗ bigSep Finset.univ fun t : T => cred (tallyAt (rcvCell c t) () t.amt)) := by
  have e : (Pipeline.launchCred owedAt c : sProp 𝕄) = bigSep Finset.univ (due0 F c) := rfl
  have e2 : bigSep (lands c) (due0 F c) = bigSep Finset.univ fun t : T => cred (tallyAt (rcvCell c t) () t.amt) :=
    (at_lands c _).trans (bigSep_congr fun t _ => due0_of c (land c t) t.amt (credit_rcv c t))
  have e4 : due0 F c (.reg barS) = cred (tallyAt (barCell c) () 7) := due0_of c _ 7 (credit_bar c)
  rw [e, at_bar, e4, ← e2]
  exact BIClass.sep_mono BIBase.Entails.rfl (drop_some (land_sub c) (due0 F c))

/-- The kit and the credit: all the body needs. -/
theorem gear_intro (c : Dev nD) : iprop(held F c ∗ Pipeline.launchCred owedAt c) ⊢ gear (F := F) c := by
  unfold held spends gear
  rw [over_opt]
  iintro ⟨⟨⟨Hb, Hat⟩, Htb, Hts, Htr⟩, Hc⟩
  ihave Hc := (credits c) $$ Hc
  icases Hc with ⟨Hcb, Hcr⟩
  ihave Hat := (Entails.of_eq (cells_split c fun s => (atPos ER ((c : Thread nD τ), s) 0 ∅ 0 : sProp 𝕄))) $$ Hat
  icases Hat with ⟨Has, Har, Haf⟩
  isplitl [Htb]; · iexact Htb
  isplitl [Hcb]; · iexact Hcb
  isplitl [Hb]; · iexact Hb
  isplitl [Hts Htr Has]
  · unfold tok; rw [bigSep_sep', bigSep_sep']
    isplitl [Hts]; · iexact Hts
    isplitl [Htr]; · iexact Htr
    iexact Has
  isplitl [Hcr Har]
  · unfold inbox; rw [bigSep_sep']
    isplitl [Hcr]; · iexact Hcr
    iexact Har
  unfold idle; iexact Haf

end Deal

end Cert.KernelIdeal.Rsc

end
-- ==== Proof.Launch.lean ====
/- The launch: the run of the whole program on the eight devices. -/
module

public import proofs.«01_k».proof.Proof.Deal
public import proofs.«01_k».proof.Proof.Gen.KernelIdeal.Points
public import Idealize.ShloMosaic.Lib.Tactic
public import Idealize.ShloMosaic.Lib.Pipeline.CollectiveSegs
public import Idealize.ShloMosaic.Lib.Pipeline.ValueKit.Geometry

@[expose] public section

set_option maxRecDepth 16384

noncomputable section

namespace Cert.KernelIdeal.Rsc

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Launch
variable (m : (ℓ : Loc nD τ sig) → Buf (Elt F) ℓ) (ρ : Dev nD → PrngReg) [∀ e, Nonempty (Elt F e)]

abbrev s₀ : MemSt nD τ sig (Elt F) := ⟨m, fun _ => 0, ρ⟩

/-- What a device's body starts from, beside its buffers. -/
def start (c : Dev nD) : sProp 𝕄 := iprop(∃ K, ctx m K ∗ gear (F := F) c)
/-- What it leaves, beside its staged windows. -/
def ends (F : FTy → Type) (c : Dev nD) : sProp (MT nD τ sig Unit (Elt F) ℕ UU ℕ) := iprop(scr F c ∗ sems0 F c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => finV m c
  Φ t := match t with
    | ⟨0, _⟩ => iprop(start m c ∗ scr F c)
    | ⟨_ + 1, _⟩ => ends F c
  q _ := fullShare
  owed t := match t with
    | ⟨0, _⟩ => owedAt c
    | ⟨_ + 1, _⟩ => 0

theorem own_sems : Pipeline.OwnSemFacts cfg0.spec osem := by decide

omit [∀ e, Nonempty (Elt F e)] in
theorem share_full (c : Dev nD) (w : Fin cfg0.W) : (dats m ρ 0 c).share w = fullShare := by unfold Dat.share; split <;> rfl

/-! ## The body -/

omit [∀ e, Nonempty (Elt F e)] in
theorem before_x (c : Dev nD) (t : Fin cfg0.N) (d) : (dats m ρ 0 c).before (0 : Fin 3) t d = xstg m c := by
  rw [fin_N0 t]; unfold Dat.before; rw [if_pos (fetch0_0 _)]; rfl
omit [∀ e, Nonempty (Elt F e)] in
theorem before_w (c : Dev nD) (t : Fin cfg0.N) (d) : (dats m ρ 0 c).before (1 : Fin 3) t d = wstg m c := by
  rw [fin_N0 t]; unfold Dat.before; rw [if_pos (fetch0_1 _)]; rfl

/-- The staged windows before the body, and after it. -/
def preB (c : Dev nD) : sProp 𝕄 :=
  iprop((start m c ∗ scr F c) ∗ (dats m ρ 0 c).owesAt () t0_0.castSucc
    ∗ (∃ d, own' c inX fullShare ((dats m ρ 0 c).before (0 : Fin 3) t0_0 d))
    ∗ (∃ d, own' c inW fullShare ((dats m ρ 0 c).before (1 : Fin 3) t0_0 d))
    ∗ (∃ d, own' c outM fullShare ((dats m ρ 0 c).before (2 : Fin 3) t0_0 d)))
def postB (c : Dev nD) : sProp 𝕄 :=
  iprop(ends F c ∗ (dats m ρ 0 c).owesAt () t0_0.succ ∗ own' c inX fullShare (xstg m c) ∗ own' c inW fullShare (wstg m c) ∗ own' c outM fullShare (finV m c))

theorem body_ok (c : Dev nD) : preB m ρ c ⊢ W c (bodyAt0 t0_0) (fun _ => postB m ρ c) := by
  unfold preB postB start ends W
  rw [body_eq, wp_deviceId]
  iintro ⟨⟨⟨%K, #HC, Hg⟩, Hs⟩, Ho, ⟨%d0, Hx⟩, ⟨%d1, Hw⟩, ⟨%d2, Hout⟩⟩
  rw [before_x, before_w]
  unfold Dat.owesAt Pipeline.owesWithin
  icases Ho with ⟨%w, %hw, Ho⟩
  iapply (body_run m K (c := c)) $$ [Hg Hs Hx Hw Hout Ho]
  · isplitr; · iexact HC
    isplitl [Hg]; · iexact Hg
    isplitl [Hs]; · iexact Hs
    isplitl [Hx]; · iexact Hx
    isplitl [Hw]; · iexact Hw
    isplitl [Hout]
    · iapply (own_some (c := c) (M := outM)) $$ Hout
    · unfold ow; iexists w; iexact Ho
  iintro ⟨Hs, Hz, Hb, Hx, Hw, Hout, How⟩
  unfold ow
  icases How with ⟨%w', Ho⟩
  unfold W
  rw [wp_ret]
  imodintro
  isplitl [Hs Hz Hb]
  · isplitl [Hs]; · iexact Hs
    isplitl [Hz] <;> iassumption
  isplitl [Ho]
  · iexists w'
    isplitr
    · ipureintro; exact fun _ _ => Or.inl trivial
    · iexact Ho
  isplitl [Hx]; · iexact Hx
  isplitl [Hw] <;> iassumption

theorem body_obligation (c : Dev nD) : BodyObligation (dats (F := F) m ρ 0 c) (defs₀ (F := F)) 𝒱₀ () Set.univ := fun t => by
  rw [fin_N0 t]
  rw [bigSep_W0, bigSep_W0]
  exact body_ok m ρ c

/-! ## The theorem's side conditions -/

omit [∀ e, Nonempty (Elt F e)] in
theorem start_intro (c : Dev nD) :
    iprop(Pipeline.unscopedRestP Pipeline.Prefetch.none cfg0.spec c (fun b => m ((c : Thread nD τ).loc b)) ∗ levAts L lv
        ∗ Pipeline.launchCred owedAt c ∗ prngReg c (ρ c) ∗ kit m c)
      ⊢ |={Set.univ}=> iprop(start m c ∗ emp) := by
  unfold kit start ctx
  iintro ⟨-, Hlev, Hcr, -, ⟨%K, #HR, Hh⟩⟩
  imodintro
  isplitl
  · iexists K
    isplitl [Hlev]
    · isplitr; · iexact HR
      iexact Hlev
    · iapply (gear_intro c)
      isplitl [Hh] <;> iassumption
  · iempintro

omit [FloatOps F] [∀ e, Nonempty (Elt F e)] in
/-- A whole buffer at some contents. -/
theorem some_whole (c : Dev nD) (b : Ref sig .tc) :
    iprop(∃ f : Buf (Elt F) ((c : Thread nD τ).loc b), (((c : Thread nD τ).loc b) ↦{fullShare} f : sProp 𝕄))
      = iprop(∃ f : Buf (Elt F) ((c : Thread nD τ).loc b), owns (Ix := Unit) (Name := ℕ) (U := UU) (Lvl := ℕ) (c : Thread nD τ) (Memref.whole b) fullShare f) := by
  simp only [owns_whole]

omit [∀ e, Nonempty (Elt F e)] in
theorem rest_eq (c : Dev nD) : (Pipeline.scopedRest (Ix := Unit) (Name := ℕ) (U := UU) (Lvl := ℕ) (Val := Elt F) cfg0.spec c : sProp 𝕄)
    = iprop(ownE F c (accM .a) ∗ ownE F c (accM .b) ∗ ownE F c (accM .c) ∗ ownE F c (sndM .a) ∗ ownE F c (sndM .b) ∗ ownE F c (sndM .c)
      ∗ ownE F c (rc0M .a) ∗ ownE F c (rc0M .b) ∗ ownE F c (rc0M .c) ∗ ownE F c (rc1M .a) ∗ ownE F c (rc1M .b) ∗ ownE F c (rc1M .c)
      ∗ ownE F c (rc2M .a) ∗ ownE F c (rc2M .b) ∗ ownE F c (rc2M .c) ∗ ownE F c xM ∗ ownE F c wM ∗ ownE F c amM ∗ ownE F c arM) := by
  refine (scopedRest0_eq c).trans ?_
  simp only [some_whole]
  rfl

omit [∀ e, Nonempty (Elt F e)] in
theorem scr_of_rest (c : Dev nD) : (Pipeline.scopedRest (Ix := Unit) (Name := ℕ) (U := UU) (Lvl := ℕ) (Val := Elt F) cfg0.spec c : sProp 𝕄) ⊢ scr F c := by
  rw [rest_eq]; unfold scr; simp only [bigSep_G]
  iintro ⟨A0, A1, A2, S0, S1, S2, B0, B1, B2, C0, C1, C2, D0, D1, D2, X, W, M, R⟩
  isplitl [S0 S1 S2]
  · isplitl [S0]; · iexact S0
    isplitl [S1] <;> iassumption
  isplitl [A0 A1 A2]
  · isplitl [A0]; · iexact A0
    isplitl [A1] <;> iassumption
  isplitl [B0 B1 B2]
  · isplitl [B0]; · iexact B0
    isplitl [B1] <;> iassumption
  isplitl [C0 C1 C2]
  · isplitl [C0]; · iexact C0
    isplitl [C1] <;> iassumption
  isplitl [D0 D1 D2]
  · isplitl [D0]; · iexact D0
    isplitl [D1] <;> iassumption
  isplitl [X]; · iexact X
  isplitl [W]; · iexact W
  isplitl [M] <;> iassumption

omit [∀ e, Nonempty (Elt F e)] in
theorem rest_of_scr (c : Dev nD) : scr F c ⊢ (Pipeline.scopedRest (Ix := Unit) (Name := ℕ) (U := UU) (Lvl := ℕ) (Val := Elt F) cfg0.spec c : sProp 𝕄) := by
  rw [rest_eq]; unfold scr; simp only [bigSep_G]
  iintro ⟨⟨S0, S1, S2⟩, ⟨A0, A1, A2⟩, ⟨B0, B1, B2⟩, ⟨C0, C1, C2⟩, ⟨D0, D1, D2⟩, X, W, M, R⟩
  isplitl [A0]; · iexact A0
  isplitl [A1]; · iexact A1
  isplitl [A2]; · iexact A2
  isplitl [S0]; · iexact S0
  isplitl [S1]; · iexact S1
  isplitl [S2]; · iexact S2
  isplitl [B0]; · iexact B0
  isplitl [B1]; · iexact B1
  isplitl [B2]; · iexact B2
  isplitl [C0]; · iexact C0
  isplitl [C1]; · iexact C1
  isplitl [C2]; · iexact C2
  isplitl [D0]; · iexact D0
  isplitl [D1]; · iexact D1
  isplitl [D2]; · iexact D2
  isplitl [X]; · iexact X
  isplitl [W]; · iexact W
  isplitl [M] <;> iassumption

omit [∀ e, Nonempty (Elt F e)] in
theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scr F c) from rfl]
  iintro ⟨Hs, -, Hr⟩
  isplitl [Hs]; · iexact Hs
  iapply (scr_of_rest c) $$ Hr

omit [∀ e, Nonempty (Elt F e)] in
theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = ends F c from rfl, unscoped_eq, show (Pipeline.ownSems0 osem c : sProp 𝕄) = sems0 F c from rfl]
  unfold ends
  iintro ⟨Hr, Hz, Hb⟩
  isplitl [Hb]; · iexact Hb
  isplitl [Hz]; · iexact Hz
  iapply (rest_of_scr c) $$ Hr

theorem stage_low (w : Fin cfg0.W) (s : Fin (cfg0.win w).nbuf) : lvS (.dma ((cfg0.win w).sem s)) = 0 := by
  revert w s; decide
theorem obs_pos : ∀ x ∈ obs, 0 < x.lvl := by decide

omit [∀ e, Nonempty (Elt F e)] in
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ obs fun x hx => by rw [stage_low]; exact obs_pos x hx
    · exact mayWait c _ [] fun x hx => by cases hx

/-! ## The run -/

/-- What a window's array holds at the end. -/
def finA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finA m ρ c w

/-- From any memory with zero counters, for any float values: every weakly fair execution on the eight devices ends,
    each device's arrays at `finA` and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := owedAt) (howed₀ := fun _ => rfl) (howedN := fun _ => rfl)
    (L := L) (lv := lv) (hL := L_of_ne) (hwaits := waits m ρ)
    (G := dealt m) (G' := kit m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

omit [∀ e, Nonempty (Elt F e)] in
theorem finA_x (c : Dev nD) : finA m ρ c (0 : Fin 3) = m ((c : Thread nD τ).loc main_arg0) := (dats (F := F) m ρ 0 c).arrAt_in (0 : Fin 3) rfl _
omit [∀ e, Nonempty (Elt F e)] in
theorem finA_w (c : Dev nD) : finA m ρ c (1 : Fin 3) = m ((c : Thread nD τ).loc main_arg1) := (dats (F := F) m ρ 0 c).arrAt_in (1 : Fin 3) rfl _

omit [∀ e, Nonempty (Elt F e)] in
/-- The result array ends as the body's value. -/
theorem finA_out (c : Dev nD) : finA m ρ c (2 : Fin 3) = finV m c :=
  (dats (F := F) m ρ 0 c).arrAt_eq_of_after_last (2 : Fin 3) t0_0 (by decide +kernel) (finV m c) fun j => rfl

end Launch

end Cert.KernelIdeal.Rsc

end
-- ==== Proof.Product.lean ====
/- Over the extended reals a device's block is the sum of the eight devices' parts of it. -/
module

public import proofs.«01_k».proof.Proof.Launch
public import Idealize.ShloMosaic.Lib.MatmulPlain
public import Idealize.ShloMosaic.Lib.Pointwise

@[expose] public section

set_option maxRecDepth 16384

noncomputable section

namespace Cert.KernelIdeal.Rsc

open Cert.KernelIdeal Cert.KernelIdeal.Gen
open Idealize.ShloMosaic Idealize.ShloMosaic.TcCoe
open scoped BigOperators

/-- Memories of the eight devices, over the extended reals. -/
abbrev Mem : Type := (ℓ : Loc nD τ sig) → Buf (Elt Ideal) ℓ

variable (m : Mem)

/-! ## The operands -/

/-- Device `d`'s columns of the left operand. -/
def xa (d : Dev nD) : S4096x512.Idx → EReal := m ((d : Thread nD τ).loc main_arg0)
/-- Device `d`'s rows of the right operand. -/
def wa (d : Dev nD) : S512x2048.Idx → EReal := m ((d : Thread nD τ).loc main_arg1)

theorem xv_eq (d : Dev nD) : xv m d = xa m d := by
  unfold xv k0_pay3
  refine (shapeCast_id _ _).trans ((shapeCast_id _ _).trans ?_)
  funext i
  show xa m d _ = xa m d i
  congr 1
  funext a
  refine Fin.ext ?_
  match a with
  | ⟨0, _⟩ => show 0 * 4096 + 1 * (i 0).val = (i 0).val; omega
  | ⟨1, _⟩ => show 0 * 512 + 1 * (i 1).val = (i 1).val; omega

theorem wv_eq (d : Dev nD) : wv m d = wa m d := by
  unfold wv k0_pay4
  refine (shapeCast_id _ _).trans ((shapeCast_id _ _).trans ?_)
  funext i
  show wa m d _ = wa m d i
  congr 1
  funext a
  refine Fin.ext ?_
  match a with
  | ⟨0, _⟩ => show 0 * 512 + 1 * (i 0).val = (i 0).val; omega
  | ⟨1, _⟩ => show 0 * 2048 + 1 * (i 1).val = (i 1).val; omega

/-! ## The payloads at an index -/

/-- A product block holds the sums of the products. -/
theorem prodV_apply (g : G) (x : S512x512.Idx → EReal) (y : (blk g).Idx → EReal) (i : Fin 512) (j : Fin (Wd g)) :
    prodV (F := Ideal) g x y (ValueIdx.ix2 i j) = ∑ k : Fin 512, x (ValueIdx.ix2 i k) * y (ValueIdx.ix2 k j) := by
  have key (N : ℕ) (y : (⟨2, ![512, N]⟩ : Shape).Idx → EReal) (j : Fin N) :
      FloatOps.matmul (F := Ideal) (φ₁ := .bf16) (φ₂ := .bf16) (DotDims.plain 512 512 N) none x y (constant _ .f32 0x00000000#32) (ValueIdx.ix2 i j)
        = ∑ k : Fin 512, x (ValueIdx.ix2 i k) * y (ValueIdx.ix2 k j) := by
    rw [Ideal.matmul_plain_apply]
    show Ideal.ofBits .f32 0x00000000#32 + _ = _
    rw [Ideal.ofBits_zero_f32, zero_add]
  cases g
  · show k0_pay6 (F := Ideal) (k0_pay5 (F := Ideal) x y) _ = _; unfold k0_pay6 k0_pay5; rw [shapeCast_id]; exact key 640 y j
  · show k0_pay7 (F := Ideal) x y _ = _; unfold k0_pay7; rw [shapeCast_id]; exact key 640 y j
  · show k0_pay8 (F := Ideal) x y _ = _; unfold k0_pay8; rw [shapeCast_id]; exact key 768 y j

theorem addV_apply (g : G) (x y : (blk g).Idx → EReal) (p : (blk g).Idx) : addV (F := Ideal) g x y p = x p + y p := by
  cases g
  · show k0_pay32 (F := Ideal) x y p = _; unfold k0_pay32; rw [shapeCast_id]; rfl
  · show k0_pay34 (F := Ideal) x y p = _; unfold k0_pay34; rw [shapeCast_id]; rfl
  · show k0_pay36 (F := Ideal) x y p = _; unfold k0_pay36; rw [shapeCast_id]; rfl

theorem outV_apply (g : G) (x y : (blk g).Idx → EReal) (p : (blk g).Idx) : outV (F := Ideal) g x y p = x p + y p := by
  cases g <;> rfl

/-! ## A device's part of an entry of the product -/

/-- What device `d`'s operands contribute to entry `(i, j)` of the product. -/
def part (d : Dev nD) (i : Fin 4096) (j : Fin 2048) : EReal := ∑ k : Fin 512, xa m d (ValueIdx.ix2 i k) * wa m d (ValueIdx.ix2 k j)

/-- Row `i` of block `c`. -/
def rowAt (c : Dev nD) (i : Fin 512) : Fin 4096 := ⟨512 * c.val + i.val, by have := c.isLt; have := i.isLt; change c.val < 8 at *; omega⟩
/-- Column `j` of group `g`. -/
def colAt (g : G) (j : Fin (Wd g)) : Fin 2048 := ⟨Co g + j.val, by have h := colR_inb g 1; change Co g + Wd g ≤ 2048 at h; have := j.isLt; omega⟩

theorem off_eq (c : Dev nD) (r : Fin 8) : k0_off1 c (BitVec.ofNat 32 r.val) 0 = 512 * (xr r c).val ∧ k0_off1 c (BitVec.ofNat 32 r.val) 1 = 0 := by
  revert c r; decide +kernel

theorem blkV_apply (d : Dev nD) (g : G) (r : Fin 8) (i : Fin 512) (j : Fin (Wd g)) :
    blkV m d g r (ValueIdx.ix2 i j) = part m d (rowAt (xr r d) i) (colAt g j) := by
  unfold blkV part
  rw [prodV_apply]
  refine Finset.sum_congr rfl fun k _ => ?_
  rw [xv_eq, wv_eq]
  have ex : (xR d r).emb (ValueIdx.ix2 i k) = ValueIdx.ix2 (rowAt (xr r d) i) k := by
    funext a
    refine Fin.ext ?_
    match a with
    | ⟨0, _⟩ => show k0_off1 d (BitVec.ofNat 32 r.val) 0 + 1 * i.val = 512 * (xr r d).val + i.val; rw [(off_eq d r).1]; omega
    | ⟨1, _⟩ => show k0_off1 d (BitVec.ofNat 32 r.val) 1 + 1 * k.val = k.val; rw [(off_eq d r).2]; omega
  have ew : (colR g).emb (ValueIdx.ix2 k j) = ValueIdx.ix2 k (colAt g j) := by
    funext a
    refine Fin.ext ?_
    match a with
    | ⟨0, _⟩ => show 0 + 1 * k.val = k.val; omega
    | ⟨1, _⟩ => show Co g + 1 * j.val = Co g + j.val; omega
  exact congrArg₂ (fun p q => xa m d p * wa m d q) ex ew

/-! ## The reduction tree -/

/-- The devices whose parts meet in block `c`, in the order of the tree's leaves. -/
def leaf (g : G) (c : Dev nD) : Fin 8 → Dev nD :=
  ![c, xr (cur g) c, xr (mid g) c, xr (cur g) (xr (mid g) c), xr (lst g) c, xr (cur g) (xr (lst g) c), xr (mid g) (xr (lst g) c), xr (cur g) (xr (mid g) (xr (lst g) c))]

theorem leaf_bij (g : G) (c : Dev nD) : Function.Bijective (leaf g c) := by revert g c; decide +kernel

/-- Each leaf is a block of the rows of `c`. -/
theorem leaf_rows (g : G) (c : Dev nD) :
    xr (rO g 0) c = c ∧ xr (rS g 0) (xr (cur g) c) = c ∧ xr (rO g 1) (xr (mid g) c) = c ∧ xr (rS g 1) (xr (cur g) (xr (mid g) c)) = c
      ∧ xr (rO g 2) (xr (lst g) c) = c ∧ xr (rS g 2) (xr (cur g) (xr (lst g) c)) = c
      ∧ xr (rO g 3) (xr (mid g) (xr (lst g) c)) = c ∧ xr (rS g 3) (xr (cur g) (xr (mid g) (xr (lst g) c))) = c := by
  revert g c; decide +kernel

theorem acc1_apply (c : Dev nD) (g : G) (j : Fin 4) (p : (blk g).Idx) :
    acc1 m c g j p = (blkV m c g (rO g j) p : EReal) + blkV m (xr (cur g) c) g (rS g j) p := addV_apply g _ _ p

/-- A group of the block is the sum of the eight devices' parts. -/
theorem outC_apply (c : Dev nD) (g : G) (i : Fin 512) (j : Fin (Wd g)) :
    outC m c g (ValueIdx.ix2 i j) = ∑ d : Dev nD, part m d (rowAt c i) (colAt g j) := by
  have h : outC m c g (ValueIdx.ix2 i j) = ((acc1 m c g 0 (ValueIdx.ix2 i j) : EReal) + acc1 m (xr (mid g) c) g 1 (ValueIdx.ix2 i j))
      + (acc1 m (xr (lst g) c) g 2 (ValueIdx.ix2 i j) + acc1 m (xr (mid g) (xr (lst g) c)) g 3 (ValueIdx.ix2 i j)) := by
    unfold outC
    rw [outV_apply]
    exact congrArg₂ (fun a b : EReal => a + b) (addV_apply g _ _ _) (addV_apply g _ _ _)
  obtain ⟨h0, h1, h2, h3, h4, h5, h6, h7⟩ := leaf_rows g c
  rw [h, acc1_apply, acc1_apply, acc1_apply, acc1_apply]
  simp only [blkV_apply]
  rw [h0, h1, h2, h3, h4, h5, h6, h7, ← (leaf_bij g c).sum_comp fun d => part m d (rowAt c i) (colAt g j), Fin.sum_univ_eight]
  unfold leaf
  simp only [Matrix.cons_val]
  ac_rfl

/-- The block before the quantiser. -/
theorem yv_apply (c : Dev nD) (i : Fin 512) (j : Fin 2048) : yv m c (ValueIdx.ix2 i j) = ∑ d : Dev nD, part m d (rowAt c i) j := by
  have e : yv m c (ValueIdx.ix2 i j) = outC m c (grp j.val) (ValueIdx.ix2 i ⟨j.val - Co (grp j.val), grp_bound _ j.isLt⟩) := by
    unfold yv
    congr 1
    exact ValueIdx.eq_ix2 _
  rw [e, outC_apply]
  have hc : colAt (grp j.val) ⟨j.val - Co (grp j.val), grp_bound _ j.isLt⟩ = j :=
    Fin.ext (by show Co (grp j.val) + (j.val - Co (grp j.val)) = j.val; have := Co_grp_le j.val; omega)
  rw [hc]

end Cert.KernelIdeal.Rsc

end
-- ==== Proof.Largest.lean ====
/- The greatest magnitude over all devices, as each device finds it. -/
module

public import proofs.«01_k».proof.Proof.Product

@[expose] public section

set_option maxRecDepth 16384

noncomputable section

namespace Cert.KernelIdeal.Rsc

open Cert.KernelIdeal Cert.KernelIdeal.Gen
open Idealize.ShloMosaic Idealize.ShloMosaic.TcCoe
open scoped BigOperators

/-! ## Greatest elements -/

/-- The pattern of all exponent bits under a sign is the least extended real. -/
theorem least_bits : (FloatOps.ofBits (F := Ideal) .f32 0xFF800000#32 : EReal) = ⊥ := by
  show Ideal.ofBits .f32 0xFF800000#32 = _
  simp [Ideal.ofBits, Ideal.ieee]

/-- A maximum over all of an array, started at the least element, is its supremum. -/
theorem fold_sup {ι : Type} [Fintype ι] (f : ι → EReal) :
    (Finset.univ : Finset ι).fold (FloatOps.maximumf (F := Ideal) (φ := .f32)) (FloatOps.ofBits (F := Ideal) .f32 0xFF800000#32) f = ⨆ i, f i := by
  rw [least_bits]
  exact Finset.sup_univ_eq_iSup f

/-- A maximum along axes that leave one element is the supremum of the whole. -/
theorem reduction_sup {s t : Shape} {axes : List (Fin s.rank)} (ht : ∀ b, t.size b = 1) (src : s.Idx → EReal)
    (h : s.Reduces axes t) (hφ : FKind.Formats .f32) (hacc : 0xFF800000#32 = FKind.maximumf.neutral .f32 hφ) (j : t.Idx) :
    (multiReduction (F := Ideal) .maximumf axes t src 0xFF800000#32 h hφ hacc j : EReal) = ⨆ i, src i := by
  rw [multiReduction_maximumf_eq_fold]
  rw [Finset.filter_true_of_mem fun i _ => funext fun b => Fin.ext (by
    have h1 := (h.drop i b).isLt; have h2 := (j b).isLt; have h3 := ht b; omega)]
  exact fold_sup src

/-- Reshaping leaves the supremum. -/
theorem cast_sup {s t : Shape} (x : s.Idx → EReal) (h : s.ShapeCasts t) :
    (⨆ i, (shapeCast t x h i : EReal)) = ⨆ i, x i :=
  (Shape.reshapeEquiv h).iSup_comp (g := x)

/-- The one element of an array of one. -/
theorem only_eq (r : S1.Idx → EReal) (a : EReal) (h : ∀ j, r j = a) :
    extractAt ![0, 0, 0] (shapeCast S1x1x1 r shapeCasts_S1_S1x1x1) inpos_S1x1x1_p0_0_0 = a := h _

/-- The greatest magnitude of an array. -/
def peak {ι : Type} (v : ι → EReal) : EReal := ⨆ i, max (v i) (-(v i))

theorem peak_nonneg {ι : Type} [Nonempty ι] (v : ι → EReal) : 0 ≤ peak v := by
  obtain ⟨i⟩ := ‹Nonempty ι›
  refine le_trans ?_ (le_iSup (fun i => max (v i) (-(v i))) i)
  rcases le_total 0 (v i) with h | h
  · exact le_max_of_le_left h
  · exact le_max_of_le_right (EReal.neg_nonneg.mpr h)

theorem pay59_eq (v : S512x2048.Idx → EReal) : (k0_pay59 (F := Ideal) v : EReal) = peak v := by
  unfold k0_pay59
  refine only_eq _ _ fun j => ?_
  refine (reduction_sup (by decide) _ _ _ _ j).trans ?_
  refine (cast_sup _ _).trans ?_
  rw [shapeCast_id]
  rfl

/-- Every element of a spread scalar is the scalar. -/
theorem spread_apply {s : Shape} (z : EReal) (j : s.Idx) : (broadcast s z : s.Idx → EReal) j = z := rfl

theorem pay60_spread (v : S512x2048.Idx → EReal) :
    (k0_pay60 (F := Ideal) v : S1x128.Idx → EReal) = broadcast S1x128 (k0_pay59 (F := Ideal) v) :=
  shapeCast_id _ _

theorem pay60_eq (v : S512x2048.Idx → EReal) (j : S1x128.Idx) :
    (k0_pay60 (F := Ideal) v j : EReal) = k0_pay59 (F := Ideal) v :=
  (congrFun (pay60_spread v) j).trans (spread_apply _ j)

theorem pay61_eq (a : EReal) (t : S8x128.Idx → EReal) :
    (k0_pay61 (F := Ideal) a t : EReal) = Ideal.div (max a (⨆ x, t x)) (Ideal.ofBits .f32 0x42FE0000#32) := by
  refine congrArg (fun z : EReal => Ideal.div (max a z) (Ideal.ofBits .f32 0x42FE0000#32)) ?_
  refine only_eq _ _ fun j => ?_
  refine (reduction_sup (by decide) _ _ _ _ j).trans ?_
  exact cast_sup t _

/-! ## The table of the devices' greatest magnitudes -/

variable (m : Mem)

/-- The device whose row an index of the table is in. -/
def rowDev (x : S8x128.Idx) : Dev nD := x 0

theorem tbl_apply (c : Dev nD) (x : S8x128.Idx) :
    (tbl m c x : EReal) = if rowDev x = c then 0 else peak (yv m (rowDev x)) := by
  show (rowV m c (rowDev x) (rix1 (x 1)) : EReal) = _
  unfold rowV
  by_cases h : rowDev x = c
  · rw [if_pos h, if_pos h]
    show (k0_pay2 (F := Ideal) _ : EReal) = 0
    unfold k0_pay2
    exact Ideal.ofBits_zero_f32
  · rw [if_neg h, if_neg h]
    exact (pay60_eq _ _).trans (pay59_eq (yv m (rowDev x)))

/-- A device's own greatest magnitude with those in its table: the greatest over all devices. -/
theorem greatest (c : Dev nD) :
    max (peak (yv m c)) (⨆ x, (tbl m c x : EReal)) = ⨆ d : Dev nD, peak (yv m d) := by
  haveI : Nonempty S512x2048.Idx := ⟨ValueIdx.ix2 0 0⟩
  apply le_antisymm
  · refine max_le (le_iSup (fun d => peak (yv m d)) c) (iSup_le fun x => ?_)
    rw [tbl_apply]
    split
    · exact (peak_nonneg (yv m c)).trans (le_iSup (fun d => peak (yv m d)) c)
    · exact le_iSup (fun d => peak (yv m d)) (rowDev x)
  · refine iSup_le fun d => ?_
    by_cases h : d = c
    · subst h; exact le_max_left _ _
    · refine le_max_of_le_right ?_
      refine le_trans ?_ (le_iSup (fun x => (tbl m c x : EReal)) (ValueIdx.ix2 d 0))
      rw [tbl_apply]
      exact (if_neg h).ge

/-! ## A device's result -/

/-- One element brought to a hundred and twenty-seventh of the greatest magnitude `g`, rounded
    and clipped, and brought back. -/
def quant (g y : EReal) : EReal :=
  min (Ideal.ofBits .f32 0x42FE0000#32) (max (Ideal.ofBits .f32 0xC2FE0000#32)
    (Ideal.liftRound Ideal.roundHalfEven (Ideal.div y (Ideal.div g (Ideal.ofBits .f32 0x42FE0000#32)))))
    * Ideal.div g (Ideal.ofBits .f32 0x42FE0000#32)

theorem pay61_here (c : Dev nD) :
    (k0_pay61 (F := Ideal) (k0_pay59 (F := Ideal) (yv m c)) (tbl m c) : EReal)
      = Ideal.div (⨆ d : Dev nD, peak (yv m d)) (Ideal.ofBits .f32 0x42FE0000#32) := by
  refine (pay61_eq _ _).trans ?_
  rw [pay59_eq, greatest]

theorem finV_apply (c : Dev nD) (p : S512x2048.Idx) :
    (finV m c p : EReal) = quant (⨆ d : Dev nD, peak (yv m d)) (yv m c p) := by
  show k0_pay1 (F := Ideal) (k0_pay62 (F := Ideal) _ _ _) (k0_pay63 (F := Ideal) _ _) p = _
  unfold k0_pay1 k0_pay62 k0_pay63 quant
  rw [shapeCast_id, ← pay61_here m c]
  rfl

end Cert.KernelIdeal.Rsc

end
-- ==== Proof.Equal.lean ====
/- Over the extended reals every device ends with its block of the reference's result. -/
module

public import proofs.«01_k».proof.Proof.Largest
public import proofs.«01_k».proof.Proof.Gen.ReferenceIdeal.Run
public import Idealize.ShloMosaic.Lib.Layout

@[expose] public section

set_option maxRecDepth 16384

noncomputable section

namespace Cert.KernelIdeal.Rsc

open Cert.KernelIdeal Cert.KernelIdeal.Gen
open Idealize.ShloMosaic Idealize.ShloMosaic.TcCoe
open scoped BigOperators

/-! ## The reference's result -/

/-- Memories of the reference's one device, over the extended reals. -/
abbrev MemR : Type := (ℓ : Loc Cert.ReferenceIdeal.nD Cert.ReferenceIdeal.τ Cert.ReferenceIdeal.sig) → Buf (Elt Ideal) ℓ

variable (m : Mem) (m' : MemR)

/-- The whole left operand. -/
def lhsR : Cert.ReferenceIdeal.S4096x4096.Idx → EReal :=
  m' (((0 : Dev Cert.ReferenceIdeal.nD).tc : Thread Cert.ReferenceIdeal.nD Cert.ReferenceIdeal.τ).loc Cert.ReferenceIdeal.main_arg0)

/-- The whole right operand. -/
def rhsR : Cert.ReferenceIdeal.S4096x2048.Idx → EReal :=
  m' (((0 : Dev Cert.ReferenceIdeal.nD).tc : Thread Cert.ReferenceIdeal.nD Cert.ReferenceIdeal.τ).loc Cert.ReferenceIdeal.main_arg1)

section Terms

open Cert.ReferenceIdeal Cert.ReferenceIdeal.Gen

/-- The whole product. -/
def dotR : FVec Ideal Cert.ReferenceIdeal.S4096x2048 .f32 :=
  Host.dotGeneral (F := Ideal) (φ₁ := .bf16) (φ₂ := .bf16) Cert.ReferenceIdeal.dot_S4096x4096_S4096x2048_S4096x2048_1_0_0_1_n_n none (lhsR m') (rhsR m')

/-- The greatest magnitude in it. -/
def maxR : FVec Ideal Cert.ReferenceIdeal.S_ .f32 :=
  Host.reduce FloatOps.maximumf (Host.absf (dotR m')) (constant Cert.ReferenceIdeal.S_ .f32 0xFF800000#32) Cert.ReferenceIdeal.Gen.reducesTo_S4096x2048_S_d0_1 Cert.ReferenceIdeal.Gen.h_S_

/-- The reference's result. -/
def refV : FVec Ideal Cert.ReferenceIdeal.S4096x2048 .f32 :=
  mulf (minimumf (broadcastInDim S4096x2048 ![] bcast_S_S4096x2048 (id (constant S_ .f32 0x42FE0000#32))) (maximumf (broadcastInDim S4096x2048 ![] bcast_S_S4096x2048 (id (constant S_ .f32 0xC2FE0000#32))) (Host.roundeven (Host.divf (dotR m') (broadcastInDim S4096x2048 ![] bcast_S_S4096x2048 (Host.divf (maxR m') (constant S_ .f32 0x42FE0000#32))))))) (broadcastInDim S4096x2048 ![] bcast_S_S4096x2048 (Host.divf (maxR m') (constant S_ .f32 0x42FE0000#32)))

end Terms

theorem dotR_apply (i : Fin 4096) (j : Fin 2048) :
    (dotR m' (ValueIdx.ix2 i j) : EReal) = ∑ k : Fin 4096, lhsR m' (ValueIdx.ix2 i k) * rhsR m' (ValueIdx.ix2 k j) := by
  refine (Ideal.matmul_plain_apply (φ₁ := .bf16) (φ₂ := .bf16) none (lhsR m') (rhsR m') (fun _ => (0 : EReal)) i j).trans ?_
  exact zero_add _

theorem maxR_apply (z : Cert.ReferenceIdeal.S_.Idx) : (maxR m' z : EReal) = peak (dotR m') := by
  unfold maxR
  rw [Host.reduce_eq_fold, Finset.filter_true_of_mem fun i _ => funext fun b => b.elim0]
  exact fold_sup (Host.absf (F := Ideal) (φ := .f32) (dotR m'))

theorem refV_apply (q : Cert.ReferenceIdeal.S4096x2048.Idx) :
    (refV m' q : EReal) = quant (peak (dotR m')) (dotR m' q) := by
  rw [← maxR_apply m' ValueIdx.ix0]
  have e : ∀ z : Cert.ReferenceIdeal.S_.Idx, z = ValueIdx.ix0 := fun z => funext fun b => b.elim0
  have s : ∀ z, maxR m' z = maxR m' ValueIdx.ix0 := fun z => congrArg (maxR m') (e z)
  have t : ∀ z, refV m' q = quant (maxR m' z) (dotR m' q) := fun z => by
    generalize hM : maxR m' = M
    generalize hD : dotR m' = D
    unfold refV quant
    rw [hM, hD, e z]
    rw [← e _]
    rfl
  exact t _

/-! ## The operands of the two -/

/-- Where column `k` of device `d` is in the whole left operand. -/
def inner (d : Dev nD) (k : Fin 512) : Fin 4096 := ⟨512 * d.val + k.val, by have := d.isLt; have := k.isLt; change d.val < 8 at *; omega⟩

/-- A sum over the whole contraction, device by device. -/
theorem sum_inner (f : Fin 4096 → EReal) : ∑ k : Fin 4096, f k = ∑ d : Dev nD, ∑ k : Fin 512, f (inner d k) := by
  refine ((finProdFinEquiv (m := 8) (n := 512)).sum_comp f).symm.trans ?_
  rw [Fintype.sum_prod_type]
  refine Finset.sum_congr rfl fun d _ => Finset.sum_congr rfl fun k _ => congrArg f (Fin.ext ?_)
  show k.val + 512 * d.val = 512 * d.val + k.val
  omega

/-- The devices' operands are the blocks of the reference's: the left by columns, the right by rows. -/
def Agree : Prop := ∀ c : Dev nD,
  xa m c = Layout.block ⟨2, ![4096, 512]⟩ ⟨2, ![4096, 4096]⟩ 1 8 c (lhsR m') ∧
  wa m c = Layout.block ⟨2, ![512, 2048]⟩ ⟨2, ![4096, 2048]⟩ 0 8 c (rhsR m')

variable {m m'}

theorem xa_block (h : Agree m m') (d : Dev nD) (i : Fin 4096) (k : Fin 512) :
    xa m d (ValueIdx.ix2 i k) = lhsR m' (ValueIdx.ix2 i (inner d k)) := by
  rw [(h d).1, Layout.block_apply]
  congr 1
  rw [ValueIdx.eq_ix2 (Layout.Tiles.idx _ d (ValueIdx.ix2 i k))]
  refine congrArg₂ ValueIdx.ix2 (Fin.ext rfl) (Fin.ext ?_)
  show d.val * 512 + k.val = 512 * d.val + k.val
  omega

theorem wa_block (h : Agree m m') (d : Dev nD) (k : Fin 512) (j : Fin 2048) :
    wa m d (ValueIdx.ix2 k j) = rhsR m' (ValueIdx.ix2 (inner d k) j) := by
  rw [(h d).2, Layout.block_apply]
  congr 1
  rw [ValueIdx.eq_ix2 (Layout.Tiles.idx _ d (ValueIdx.ix2 k j))]
  refine congrArg₂ ValueIdx.ix2 (Fin.ext ?_) (Fin.ext rfl)
  show d.val * 512 + k.val = 512 * d.val + k.val
  omega

/-- A device's block of the sum is its block of the whole product. -/
theorem yv_dot (h : Agree m m') (c : Dev nD) (i : Fin 512) (j : Fin 2048) :
    (yv m c (ValueIdx.ix2 i j) : EReal) = dotR m' (ValueIdx.ix2 (rowAt c i) j) := by
  rw [yv_apply, dotR_apply, sum_inner]
  refine Finset.sum_congr rfl fun d _ => ?_
  unfold part
  exact Finset.sum_congr rfl fun k _ => by rw [xa_block h, wa_block h]

/-- Every row of the whole is a row of some device's block. -/
theorem row_split (r : Fin 4096) : ∃ (c : Dev nD) (i : Fin 512), r = rowAt c i :=
  ⟨⟨r.val / 512, by have := r.isLt; change _ < 8; omega⟩, ⟨r.val % 512, Nat.mod_lt _ (by decide)⟩,
    Fin.ext (Nat.div_add_mod r.val 512).symm⟩

/-- The greatest magnitude of the whole product is the greatest over the devices' blocks. -/
theorem peak_dot (h : Agree m m') : (⨆ c : Dev nD, peak (yv m c) : EReal) = peak (dotR m') := by
  apply le_antisymm
  · refine iSup_le fun c => iSup_le fun p => ?_
    obtain ⟨i, j, rfl⟩ : ∃ (i : Fin 512) (j : Fin 2048), p = ValueIdx.ix2 i j := ⟨p 0, p 1, ValueIdx.eq_ix2 p⟩
    rw [yv_dot h]
    exact le_iSup (fun q => max (dotR m' q : EReal) (-(dotR m' q))) _
  · refine iSup_le fun q => ?_
    obtain ⟨r, j, rfl⟩ : ∃ (r : Fin 4096) (j : Fin 2048), q = ValueIdx.ix2 r j := ⟨q 0, q 1, ValueIdx.eq_ix2 q⟩
    obtain ⟨c, i, rfl⟩ := row_split r
    rw [← yv_dot h]
    exact le_trans (le_iSup (fun p => max (yv m c p : EReal) (-(yv m c p))) (ValueIdx.ix2 i j))
      (le_iSup (fun c => (peak (yv m c) : EReal)) c)

/-- Where an element of a device's block is in the whole result. -/
theorem rows_idx (t : Layout.Tiles ⟨2, ![512, 2048]⟩ ⟨2, ![4096, 2048]⟩ 0 8) (c : Dev nD) (i : Fin 512) (j : Fin 2048) :
    t.idx c (ValueIdx.ix2 i j) = ValueIdx.ix2 (rowAt c i) j := by
  rw [ValueIdx.eq_ix2 (t.idx c (ValueIdx.ix2 i j))]
  refine congrArg₂ ValueIdx.ix2 (Fin.ext ?_) (Fin.ext rfl)
  show c.val * 512 + i.val = 512 * c.val + i.val
  omega

theorem fin_agree (h : Agree m m') (c : Dev nD) :
    finV m c = Layout.block ⟨2, ![512, 2048]⟩ ⟨2, ![4096, 2048]⟩ 0 8 c (refV m') := by
  funext p
  obtain ⟨i, j, rfl⟩ : ∃ (i : Fin 512) (j : Fin 2048), p = ValueIdx.ix2 i j := ⟨p 0, p 1, ValueIdx.eq_ix2 p⟩
  rw [Layout.block_apply, rows_idx]
  have l := finV_apply m c (ValueIdx.ix2 i j)
  rw [peak_dot h, yv_dot h] at l
  exact l.trans (refV_apply m' (ValueIdx.ix2 (rowAt c i) j)).symm

variable (m m')

theorem fin_block (h : Agree m m') (c : Dev nD) :
    finV m c = Layout.block ⟨2, ![512, 2048]⟩ ⟨2, ![4096, 2048]⟩ 0 8 c (refV m') := fin_agree h c

end Cert.KernelIdeal.Rsc

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Equal
public import Idealize.ShloMosaic.Adequacy
public import Idealize.ShloMosaic.Lib.Quiescent
public import Idealize.ShloMosaic.Init

@[expose] public section

noncomputable section

namespace Cert.Proof

open Idealize.ShloMosaic Idealize.SL.Sem

/-- The kernel's run, at any float values, read at its arguments. -/
theorem frame_any {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.KernelIdeal.Rsc.finA_x m ρ c), (h.1 c (1 : Fin 3)).trans (Cert.KernelIdeal.Rsc.finA_w m ρ c)⟩, h.2⟩)
    (Cert.KernelIdeal.Rsc.run_main m ρ)

/-- The two programs are the same text, so their body tables are the same: label by label. -/
theorem bodies_eq : @Cert.Kernel.defs₀ Bits _ _ = @Cert.KernelIdeal.defs₀ Bits _ _ := by
  unfold Cert.Kernel.defs₀ Cert.KernelIdeal.defs₀
  refine congrArg Defs.onTc ?_
  funext l a
  have h : l = (0 : Fin 1) := Subsingleton.elim _ _
  subst h
  obtain ⟨t, s⟩ := a
  rfl

theorem tables_eq : @Cert.Kernel.defs Bits _ _ = @Cert.KernelIdeal.defs Bits _ _ :=
  congrArg (Pipeline.defs (Cert.KernelIdeal.pcfgs (F := Bits))) bodies_eq

theorem frame_kernel : Cert.quiescent_Kernel := by
  intro m ρ _
  rw [tables_eq]
  exact frame_any (F := Bits) m ρ

theorem frame_ideal : Cert.quiescent_KernelIdeal := fun m ρ _ => frame_any (F := Ideal) m ρ

theorem frame_reference : Cert.quiescent_ReferenceIdeal := fun m ρ _ =>
  (θ_run Cert.ReferenceIdeal.defs _ _).mono (fun _ h => ⟨fun c => (h c).2, sem_eq_zero_of_no_sems rfl _⟩)
    (Cert.ReferenceIdeal.Value.run m ρ)

theorem equal : Cert.algebraic_KernelIdeal_ReferenceIdeal := fun m ρ m' ρ' _ hm =>
  ⟨Cert.KernelIdeal.Rsc.refV m',
    (θ_run Cert.KernelIdeal.defs _ _).mono
      (fun _ h c => ⟨((h.1 c (2 : Fin 3)).trans (Cert.KernelIdeal.Rsc.finA_out m ρ c)).trans (Cert.KernelIdeal.Rsc.fin_block m m' hm c),
        (h.1 c (0 : Fin 3)).trans (Cert.KernelIdeal.Rsc.finA_x m ρ c), (h.1 c (1 : Fin 3)).trans (Cert.KernelIdeal.Rsc.finA_w m ρ c)⟩)
      (Cert.KernelIdeal.Rsc.run_main (F := Ideal) m ρ),
    (θ_run Cert.ReferenceIdeal.defs _ _).mono (fun _ h => h 0) (Cert.ReferenceIdeal.Value.run m' ρ')⟩

theorem claim : Cert.Claim := ⟨Cert.Kernel.Gen.facts, Cert.KernelIdeal.Gen.facts, Cert.ReferenceIdeal.Gen.facts, by
  exact ⟨frame_kernel, frame_ideal, frame_reference, trivial, equal⟩⟩

end Cert.Proof

end
